-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x768 : Shape := ⟨2, ![4096, 768]⟩
abbrev S1024x768 : Shape := ⟨2, ![1024, 768]⟩
abbrev S1024x8x768 : Shape := ⟨3, ![1024, 8, 768]⟩
abbrev S4096x1 : Shape := ⟨2, ![4096, 1]⟩
abbrev S_ : Shape := ⟨0, ![]⟩
abbrev S4096 : Shape := ⟨1, ![4096]⟩
abbrev S1024 : Shape := ⟨1, ![1024]⟩
abbrev S1024x1 : Shape := ⟨2, ![1024, 1]⟩
abbrev S1x1024 : Shape := ⟨2, ![1, 1024]⟩
abbrev S1x8 : Shape := ⟨2, ![1, 8]⟩
abbrev S256x768 : Shape := ⟨2, ![256, 768]⟩
abbrev S256x1 : Shape := ⟨2, ![256, 1]⟩
abbrev S256x1024 : Shape := ⟨2, ![256, 1024]⟩
abbrev S256x256 : Shape := ⟨2, ![256, 256]⟩
abbrev S1024x256 : Shape := ⟨2, ![1024, 256]⟩
abbrev S256x512 : Shape := ⟨2, ![256, 512]⟩
abbrev S1024x512 : Shape := ⟨2, ![1024, 512]⟩
abbrev S256 : Shape := ⟨1, ![256]⟩
abbrev S1x1x1024 : Shape := ⟨3, ![1, 1, 1024]⟩
abbrev S1 : Shape := ⟨1, ![1]⟩
abbrev S1x1x1 : Shape := ⟨3, ![1, 1, 1]⟩
abbrev S8 : Shape := ⟨1, ![8]⟩
abbrev S1024x1x768 : Shape := ⟨3, ![1024, 1, 768]⟩
abbrev S16x256x8 : Shape := ⟨3, ![16, 256, 8]⟩
abbrev S4096x8x8x768 : Shape := ⟨4, ![4096, 8, 8, 768]⟩
abbrev S1x1x768 : Shape := ⟨3, ![1, 1, 768]⟩
abbrev S1x8x768 : Shape := ⟨3, ![1, 8, 768]⟩
abbrev S1x256x8 : Shape := ⟨3, ![1, 256, 8]⟩
abbrev S256x1x8x768 : Shape := ⟨4, ![256, 1, 8, 768]⟩
abbrev S1x768 : Shape := ⟨2, ![1, 768]⟩
abbrev S1x256x1 : Shape := ⟨3, ![1, 256, 1]⟩
abbrev S1x1x8x768 : Shape := ⟨4, ![1, 1, 8, 768]⟩
abbrev S4096x8 : Shape := ⟨2, ![4096, 8]⟩

abbrev nBuf : Space → Nat
  | .hbm => 26
  | .vmem => 20
  | .smem => 1
  | _ => 0

abbrev bufTy : (tb : Table) → Fin (tcTables nBuf tb) → BufTy
  | .hbm, ⟨0, _⟩ => ⟨S4096x768, .f32⟩
  | .hbm, ⟨1, _⟩ => ⟨S1024x768, .f32⟩
  | .hbm, ⟨2, _⟩ => ⟨S1024x8x768, .f32⟩
  | .hbm, ⟨3, _⟩ => ⟨S4096x1, .i32⟩
  | .hbm, ⟨4, _⟩ => ⟨S4096x768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S1024x768, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1x1024, .f32⟩
  | .hbm, ⟨21, _⟩ => ⟨S1x8, .i32⟩
  | .hbm, ⟨22, _⟩ => ⟨S1024x1x768, .f32⟩
  | .hbm, ⟨23, _⟩ => ⟨S16x256x8, .f32⟩
  | .hbm, ⟨24, _⟩ => ⟨S4096x8x8x768, .f32⟩
  | .hbm, ⟨25, _⟩ => ⟨S4096x8, .f32⟩
  | .local _ .vmem, ⟨0, _⟩ => ⟨S256x768, .f32⟩
  | .local _ .vmem, ⟨1, _⟩ => ⟨S256x768, .f32⟩
  | .local _ .vmem, ⟨2, _⟩ => ⟨S1024x768, .f32⟩
  | .local _ .vmem, ⟨3, _⟩ => ⟨S256x1, .f32⟩
  | .local _ .vmem, ⟨4, _⟩ => ⟨S256x1, .f32⟩
  | .local _ .vmem, ⟨5, _⟩ => ⟨S1x1024, .f32⟩
  | .local _ .vmem, ⟨6, _⟩ => ⟨S256x1, .i32⟩
  | .local _ .vmem, ⟨7, _⟩ => ⟨S256x1, .i32⟩
  | .local _ .vmem, ⟨8, _⟩ => ⟨S1x8, .i32⟩
  | .local _ .vmem, ⟨9, _⟩ => ⟨S1x1024, .i32⟩
  | .local _ .vmem, ⟨10, _⟩ => ⟨S256x768, .f32⟩
  | .local _ .vmem, ⟨11, _⟩ => ⟨S256x768, .f32⟩
  | .local _ .vmem, ⟨12, _⟩ => ⟨S1x1x768, .f32⟩
  | .local _ .vmem, ⟨13, _⟩ => ⟨S1x1x768, .f32⟩
  | .local _ .vmem, ⟨14, _⟩ => ⟨S1x8x768, .f32⟩
  | .local _ .vmem, ⟨15, _⟩ => ⟨S1x8x768, .f32⟩
  | .local _ .vmem, ⟨16, _⟩ => ⟨S1x256x8, .f32⟩
  | .local _ .vmem, ⟨17, _⟩ => ⟨S1x256x8, .f32⟩
  | .local _ .vmem, ⟨18, _⟩ => ⟨S256x1x8x768, .f32⟩
  | .local _ .vmem, ⟨19, _⟩ => ⟨S256x1x8x768, .f32⟩
  | .local _ .smem, ⟨0, _⟩ => ⟨S8, .i32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v11 : Ref sig .tc := ⟨.hbm, 25, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v158 : BitVec 1 := Scalar.cmpi .eq arg0 c15_i32
  let v159 : BitVec 32 := Scalar.extui v158
  let c0_i32_54 : BitVec 32 := 0#32
  let v160 : BitVec 1 := Scalar.cmpi .ne v159 c0_i32_54
  v160

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![16, 8], ![false, false]⟩

abbrev pre1 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S8.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x8x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1x8x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4096x768 : Shape := ⟨2, ![4096, 768]⟩
abbrev S1024x768 : Shape := ⟨2, ![1024, 768]⟩
abbrev S1024x8x768 : Shape := ⟨3, ![1024, 8, 768]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x1 : Shape := ⟨2, ![1024, 1]⟩
abbrev S768x1024 : Shape := ⟨2, ![768, 1024]⟩
abbrev S4096x1024 : Shape := ⟨2, ![4096, 1024]⟩
abbrev S1x1024 : Shape := ⟨2, ![1, 1024]⟩
abbrev S4096x8 : Shape := ⟨2, ![4096, 8]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S4096x8x1 : Shape := ⟨3, ![4096, 8, 1]⟩
abbrev S4096x8x8x768 : Shape := ⟨4, ![4096, 8, 8, 768]⟩
abbrev S1 : Shape := ⟨1, ![1]⟩
abbrev S1x1x1 : Shape := ⟨3, ![1, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1024x768, .f32⟩
  | .hbm, ⟨2, _⟩ => ⟨S1024x8x768, .f32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S1024x768, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S768x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x8, .f32⟩
  | .hbm, ⟨27, _⟩ => ⟨S4096x8, .i32⟩
  | .hbm, ⟨28, _⟩ => ⟨S32768, .i32⟩
  | .hbm, ⟨29, _⟩ => ⟨S_, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S_, .i32⟩
  | .hbm, ⟨44, _⟩ => ⟨S32768, .i32⟩
  | .hbm, ⟨45, _⟩ => ⟨S1024, .i32⟩
  | .hbm, ⟨46, _⟩ => ⟨S8, .i32⟩
  | .hbm, ⟨47, _⟩ => ⟨S8, .i32⟩
  | .hbm, ⟨48, _⟩ => ⟨S1x8, .i32⟩
  | .hbm, ⟨49, _⟩ => ⟨S4096x8, .i32⟩
  | .hbm, ⟨50, _⟩ => ⟨S_, .i32⟩
  | .hbm, ⟨51, _⟩ => ⟨S4096x8, .i32⟩
  | .hbm, ⟨52, _⟩ => ⟨S4096x8, .i1⟩
  | .hbm, ⟨53, _⟩ => ⟨S_, .i32⟩
  | .hbm, ⟨54, _⟩ => ⟨S4096x8, .i32⟩
  | .hbm, ⟨55, _⟩ => ⟨S4096x8, .i32⟩
  | .hbm, ⟨56, _⟩ => ⟨S4096x8, .i32⟩
  | .hbm, ⟨57, _⟩ => ⟨S4096x8x1, .i32⟩
  | .hbm, ⟨58, _⟩ => ⟨S4096x8x8x768, .f32⟩
  | .hbm, ⟨59, _⟩ => ⟨S_, .i32⟩
  | .hbm, ⟨60, _⟩ => ⟨S4096x8, .i32⟩
  | .hbm, ⟨61, _⟩ => ⟨S4096x8, .i1⟩
  | .hbm, ⟨62, _⟩ => ⟨S_, .i32⟩
  | .hbm, ⟨63, _⟩ => ⟨S4096x8, .i32⟩
  | .hbm, ⟨64, _⟩ => ⟨S4096x8, .i32⟩
  | .hbm, ⟨65, _⟩ => ⟨S4096x8, .i32⟩
  | .hbm, ⟨66, _⟩ => ⟨S4096x8x1, .i32⟩
  | .hbm, ⟨67, _⟩ => ⟨S1, .i32⟩
  | .hbm, ⟨68, _⟩ => ⟨S_, .i32⟩
  | .hbm, ⟨69, _⟩ => ⟨S4096x8x1, .i32⟩
  | .hbm, ⟨70, _⟩ => ⟨S4096x8x1, .i1⟩
  | .hbm, ⟨71, _⟩ => ⟨S1x1x1, .i32⟩
  | .hbm, ⟨72, _⟩ => ⟨S4096x8x1, .i32⟩
  | .hbm, ⟨73, _⟩ => ⟨S4096x8x1, .i1⟩
  | .hbm, ⟨74, _⟩ => ⟨S4096x8x1, .i1⟩
  | .hbm, ⟨75, _⟩ => ⟨S_, .i1⟩
  | .hbm, ⟨76, _⟩ => ⟨S4096x8, .i1⟩
  | .hbm, ⟨77, _⟩ => ⟨S4096x8, .f32⟩
  | .hbm, ⟨78, _⟩ => ⟨S_, .f32⟩
  | .hbm, ⟨79, _⟩ => ⟨S4096x8, .f32⟩
  | .hbm, ⟨80, _⟩ => ⟨S4096x8, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_values : Ref sig .tc := ⟨.hbm, 26, rfl⟩
abbrev main_indices : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_values_5 : Ref sig .tc := ⟨.hbm, 46, rfl⟩
abbrev main_indices_6 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v33 : Ref sig .tc := ⟨.hbm, 80, rfl⟩

abbrev nD : Nat := 1
abbrev τ : Topo := Topo.v7x

variable {F : FTy → Type} [FloatOps F]
-- ==== Proof.Pick.lean ====
/- Picking the greatest entry over and over. A round names the least position whose entry is greatest and masks it below every entry;
   the positions named, in turn, are those of the stable sort, greater first. And the signed minimum of words over a set of indices. -/
module

public import Idealize.ShloMosaic.Lib.SortNet.Extract
public import Idealize.ShloMosaic.Lib.SortPrefix
public import Idealize.ShloMosaic.Lib.SortFacts
@[expose] public section

namespace Cert.Pick

open Idealize.ShloMosaic

section Sorting

variable {β : Type} [LinearOrder β] {n : ℕ}

/-- "The greater entry first". -/
def gtB (v : Fin n → β) (i j : Fin n) : Bool := decide (v j < v i)

/-- "The greater entry first, then the lesser position". -/
def befB (v : Fin n → β) (i j : Fin n) : Bool := decide (v j < v i) || (decide (v i = v j) && decide (i < j))

theorem befB_strict (v : Fin n → β) : StrictTotalBefore (befB v) :=
  StrictTotalBefore.of_key_then_position (fun a b : β => decide (b < a)) v (fun a => by simp)
    (fun a b c h h' => by simp only [decide_eq_true_eq] at h h' ⊢; exact lt_trans h' h)
    (fun a b => by
      simp only [decide_eq_true_eq]
      rcases lt_trichotomy a b with h | h | h
      · exact Or.inr (Or.inr h)
      · exact Or.inr (Or.inl h)
      · exact Or.inl h)

/-- Along a strictly ascending list the stable sort asks only whether a LATER element is before an earlier one. -/
theorem stableSort_congr_later (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_later R R' h l hl.2]
    exact insertBefore_congr R R' a _ fun b hb => h a b (hl.1 b ((perm_stableSort R' l).mem_iff.mp hb))

/-- The stable sort by the entries alone settles ties by position. -/
theorem sortedFrom_gtB (v : Fin n → β) : sortedFrom (gtB v) = sortedFrom (befB v) := by
  have e : sortPositions n (gtB v) = sortPositions n (befB v) :=
    stableSort_congr_later _ _ (fun a b hab => by
      unfold gtB befB
      rw [show decide (b < a) = false from decide_eq_false (not_lt.mpr (le_of_lt hab)), Bool.and_false, Bool.or_false]) _
      (List.pairwise_lt_finRange n)
  funext k
  unfold sortedFrom
  rw [List.get_of_eq e]
  rfl

/-- `j` is the least position whose entry is greatest. -/
def IsTop (v : Fin n → β) (j : Fin n) : Prop := (∀ i, v i ≤ v j) ∧ ∀ i, v i = v j → j ≤ i

theorem IsTop.unique {v : Fin n → β} {j j' : Fin n} (h : IsTop v j) (h' : IsTop v j') : j = j' := by
  have e : v j = v j' := le_antisymm (h'.1 j) (h.1 j')
  exact le_antisymm (h.2 j' e.symm) (h'.2 j e)

/-- `k` rounds from `v`, round `r` naming `σ r` and masking it to `neg`, below every entry: `σ r` is the stable sort's `r`-th position. -/
theorem rounds_sorted {k : ℕ} (hk : k ≤ n) (neg : β) (v : Fin n → β) (hneg : ∀ i, neg < v i) (σ : Fin k → Fin n)
    (w : ℕ → Fin n → β) (h0 : w 0 = v) (hs : ∀ r : Fin k, w (r.val + 1) = Function.update (w r.val) (σ r) neg)
    (ht : ∀ r : Fin k, IsTop (w r.val) (σ r)) (i : Fin k) : sortedFrom (gtB v) (i.castLE hk) = σ i := by
  classical
  have hw : ∀ r, r ≤ k → ∀ p, w r p = if ∃ q : Fin k, q.val < r ∧ σ q = p then neg else v p := by
    intro r
    induction r with
    | zero => intro _ p; rw [h0, if_neg]; rintro ⟨q, hq, _⟩; exact absurd hq (Nat.not_lt_zero _)
    | succ r ih =>
      intro hr p
      rw [show r + 1 = (⟨r, hr⟩ : Fin k).val + 1 from rfl, hs ⟨r, hr⟩]
      by_cases hp : p = σ ⟨r, hr⟩
      · subst hp
        rw [Function.update_self, if_pos ⟨⟨r, hr⟩, Nat.lt_succ_self r, rfl⟩]
      · rw [Function.update_of_ne hp, ih (Nat.le_of_succ_le hr) p]
        refine if_congr ⟨?_, ?_⟩ rfl rfl
        · rintro ⟨q, hq, e⟩; exact ⟨q, Nat.lt_succ_of_lt hq, e⟩
        · rintro ⟨q, hq, e⟩
          rcases Nat.lt_succ_iff_lt_or_eq.mp hq with h | h
          · exact ⟨q, h, e⟩
          · exact absurd (by rw [← e]; exact congrArg σ (Fin.ext h)) hp
  -- a round never names a position named before
  have hnew : ∀ (r q : Fin k), q.val < r.val → σ q ≠ σ r := by
    intro r q hq e
    have hneg' : w r.val (σ r) = neg := by rw [hw r.val (le_of_lt r.isLt), if_pos ⟨q, hq, e⟩]
    have hcard : ((Finset.univ.filter fun q : Fin k => q.val < r.val).image σ).card < (Finset.univ : Finset (Fin n)).card := by
      refine lt_of_le_of_lt Finset.card_image_le ?_
      rw [Finset.card_univ, Fintype.card_fin]
      refine lt_of_lt_of_le ?_ hk
      have : (Finset.univ.filter fun q : Fin k => q.val < r.val) ⊂ Finset.univ :=
        Finset.filter_ssubset.mpr ⟨r, Finset.mem_univ r, lt_irrefl _⟩
      simpa using Finset.card_lt_card this
    obtain ⟨p, _, hp⟩ := Finset.exists_mem_notMem_of_card_lt_card hcard
    have hp' : w r.val p = v p := by
      rw [hw r.val (le_of_lt r.isLt), if_neg]
      rintro ⟨q', hq', e'⟩
      exact hp (Finset.mem_image.mpr ⟨q', Finset.mem_filter.mpr ⟨Finset.mem_univ _, hq'⟩, e'⟩)
    have := (ht r).1 p
    rw [hp', hneg'] at this
    exact absurd (hneg p) (not_lt.mpr this)
  have hval : ∀ r : Fin k, w r.val (σ r) = v (σ r) := fun r => by
    rw [hw r.val (le_of_lt r.isLt), if_neg]; rintro ⟨q, hq, e⟩; exact hnew r q hq e
  -- nothing not named before a round is before what it names
  have hdom : ∀ (r : Fin k) (p : Fin n), (∀ q : Fin k, q.val < r.val → σ q ≠ p) → befB v p (σ r) = false := by
    intro r p hp
    have hwp : w r.val p = v p := by
      rw [hw r.val (le_of_lt r.isLt), if_neg]; rintro ⟨q, hq, e⟩; exact hp q hq e
    have h1 := (ht r).1 p
    have h2 := (ht r).2 p
    rw [hwp, hval r] at h1 h2
    unfold befB
    rw [decide_eq_false (not_lt.mpr h1), Bool.false_or]
    by_cases e : v p = v (σ r)
    · rw [decide_eq_false (not_lt.mpr (h2 e)), Bool.and_false]
    · rw [decide_eq_false e, Bool.false_and]
  have hinj : Function.Injective σ := fun a b e => by
    rcases lt_trichotomy a b with h | h | h
    · exact absurd e (hnew b a h)
    · exact h
    · exact absurd e.symm (hnew a b h)
  rw [sortedFrom_gtB]
  exact (befB_strict v).sortedFrom_eq_of_prefix hk σ hinj
    (fun a b hab => hdom a (σ b) fun q hq e => absurd (hinj e) (by
      intro h; rw [h] at hq; exact absurd hq (not_lt.mpr (le_of_lt hab))))
    (fun a p hp => hdom a p fun q _ => hp q) i

end Sorting

section Words

variable {ι : Type}

/-- The signed minimum over a set is at most its start and every word, and is one of them. -/
theorem fold_minsi_spec [DecidableEq ι] (g : ι → BitVec 32) (s : Finset ι) (init : BitVec 32) :
    (∀ i ∈ s, (s.fold IntOp.minsi init g).toInt ≤ (g i).toInt) ∧ (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s ha ih
  rw [Finset.fold_insert ha]
  have e := SortNet.toInt_minsi (g a) (s.fold IntOp.minsi init g)
  refine ⟨fun i hi => ?_, ?_⟩
  · rw [e]
    rcases Finset.mem_insert.mp hi with rfl | hi
    · exact min_le_left _ _
    · exact le_trans (min_le_right _ _) (ih.1 i hi)
  · show (if (g a).slt (s.fold IntOp.minsi init g) then g a else s.fold IntOp.minsi init g) = init ∨ ∃ i ∈ insert a s, _
    split
    · rename_i h
      exact Or.inr ⟨a, Finset.mem_insert_self a s, by show (if _ then _ else _) = _; rw [if_pos h]⟩
    · rename_i h
      rcases ih.2 with h' | ⟨i, hi, h'⟩
      · exact Or.inl h'
      · exact Or.inr ⟨i, Finset.mem_insert_of_mem hi, by show (if _ then _ else _) = _; rw [if_neg h]; exact h'⟩

theorem toInt_ofNat_small (j : ℕ) (hj : j < 2 ^ 31) : (BitVec.ofNat 32 j).toInt = j := by
  have h : (BitVec.ofNat 32 j).toNat = j := by rw [BitVec.toNat_ofNat]; exact Nat.mod_eq_of_lt (by omega)
  rw [BitVec.toInt_eq_toNat_of_lt (by rw [h]; omega), h]

/-- The least position that has `P`, found as the signed minimum of the positions that have it and 1024 elsewhere. -/
theorem least_pos [DecidableEq ι] (s : Finset ι) (κ : ι → Fin 1024) (hκ : ∀ j, ∃ i ∈ s, κ i = j) (P : Fin 1024 → Prop) [DecidablePred P]
    (hP : ∃ j, P j) (g : ι → BitVec 32) (hg : ∀ i ∈ s, g i = if P (κ i) then BitVec.ofNat 32 (κ i).val else 1024#32) :
    ∃ j : Fin 1024, s.fold IntOp.minsi 2147483647#32 g = BitVec.ofNat 32 j.val ∧ P j ∧ ∀ i, P i → j ≤ i := by
  obtain ⟨hle, hmem⟩ := fold_minsi_spec g s 2147483647#32
  have hle' : ∀ j, P j → (s.fold IntOp.minsi 2147483647#32 g).toInt ≤ j.val := fun j hj => by
    obtain ⟨i, hi, rfl⟩ := hκ j
    have := hle i hi
    rw [hg i hi, if_pos hj, toInt_ofNat_small _ (by have := (κ i).isLt; omega)] at this
    exact this
  obtain ⟨j₀, hj₀⟩ := hP
  have h0 := hle' j₀ hj₀
  have hj := j₀.isLt
  rcases hmem with h | ⟨i, hi, h⟩
  · rw [h] at h0
    have e : (2147483647#32 : BitVec 32).toInt = 2147483647 := by decide
    rw [e] at h0
    omega
  · rw [hg i hi] at h
    by_cases hPi : P (κ i)
    · rw [if_pos hPi] at h
      refine ⟨κ i, h, hPi, fun j hj => ?_⟩
      have := hle' j hj
      rw [h, toInt_ofNat_small _ (by have := (κ i).isLt; omega)] at this
      exact Fin.le_def.mpr (by omega)
    · rw [if_neg hPi] at h
      rw [h] at h0
      have e : (1024#32 : BitVec 32).toInt = 1024 := by decide
      rw [e] at h0
      omega

end Words

end Cert.Pick
-- ==== Proof.Rounds.lean ====
/- One round of the selection among the counts, on a row of 1024 words: the round names the least position of the greatest word, read
   signed, and the next row has all ones there. -/
module

public import proofs.«01_k».proof.Proof.Pick
public import Idealize.ShloMosaic.PureOps.Reduce
public import Idealize.ShloMosaic.Lib.ValueIdxCore
public import Idealize.ShloMosaic.Lib.Pipeline.Value
@[expose] public section

noncomputable section

namespace Cert.Rounds

open Idealize.ShloMosaic Idealize.ShloMosaic.ValueIdx Cert.Pick

abbrev R1024 : Shape := ⟨2, ![1, 1024]⟩
abbrev R1x1024 : Shape := ⟨3, ![1, 1, 1024]⟩
abbrev R8 : Shape := ⟨2, ![1, 8]⟩
abbrev R1 : Shape := ⟨1, ![1]⟩
abbrev R111 : Shape := ⟨3, ![1, 1, 1]⟩

theorem castR : R1024.ShapeCasts R1x1024 := by decide
theorem castR1 : R1.ShapeCasts R111 := by decide
theorem reducesR : R1x1024.Reduces [1, 2] R1 := by decide
theorem posR : ∀ a, (![0, 0, 0] : Fin 3 → ℕ) a < R111.size a := by decide
theorem iotaR : R1024.Iotas .tc 32 [1] := by decide
theorem iotaR8 : R8.Iotas .tc 32 [1] := by decide

/-- The greatest word of the row. -/
def roundMax (s : IVec R1024 32) : BitVec 32 :=
  extractAt ![0, 0, 0] (shapeCast R111 (multiReductionI .maxsi [1, 2] R1 (shapeCast R1x1024 s castR) 2147483648#32 reducesR rfl) castR1) posR

/-- The position the round names. -/
def roundIdx (s : IVec R1024 32) : BitVec 32 :=
  extractAt ![0, 0, 0] (shapeCast R111 (multiReductionI .minsi [1, 2] R1
    (shapeCast R1x1024 (select (cmpi .sge s (broadcast R1024 (roundMax s))) (iota .tc R1024 32 [1] iotaR) (broadcast R1024 1024#32)) castR)
    2147483647#32 reducesR rfl) castR1) posR

/-- The row after the round. -/
def roundNext (s : IVec R1024 32) : IVec R1024 32 :=
  select (cmpi .eq (iota .tc R1024 32 [1] iotaR) (broadcast R1024 (roundIdx s))) (broadcast R1024 4294967295#32) s

/-- The row after `r` rounds. -/
def rowAt (s : IVec R1024 32) : ℕ → IVec R1024 32
  | 0 => s
  | r + 1 => roundNext (rowAt s r)

/-- The positions the eight rounds name, position `r` in lane `r`. -/
def picks (s : IVec R1024 32) : IVec R8 32 := fun y => roundIdx (rowAt s (y 1).val)

theorem iota_apply (y : R1024.Idx) : iota .tc R1024 32 [1] iotaR y = BitVec.ofNat 32 (y 1).val := by
  unfold iota; simp only [List.foldl_cons, List.foldl_nil, Nat.zero_mul, Nat.zero_add]

theorem iota8_apply (y : R8.Idx) : iota .tc R8 32 [1] iotaR8 y = BitVec.ofNat 32 (y 1).val := by
  unfold iota; simp only [List.foldl_cons, List.foldl_nil, Nat.zero_mul, Nat.zero_add]

theorem select_sge {α : Type} (x y : BitVec 32) (a b : α) :
    Scalar.select (IntOp.cmpi .sge x y) a b = if y.toInt ≤ x.toInt then a else b := by
  unfold Scalar.select IntOp.cmpi BitVec.sle
  by_cases h : y.toInt ≤ x.toInt
  · rw [if_pos h, decide_eq_true h]; rfl
  · rw [if_neg h, decide_eq_false h]; rfl

theorem select_eq {α : Type} (x y : BitVec 32) (a b : α) : Scalar.select (IntOp.cmpi .eq x y) a b = if x = y then a else b := by
  unfold Scalar.select IntOp.cmpi
  by_cases h : x = y
  · rw [if_pos h]; subst h; simp
  · rw [if_neg h, show (x == y) = false from beq_eq_false_iff_ne.mpr h]; rfl

/-- The row's words, read signed. -/
def vals (s : IVec R1024 32) (j : Fin 1024) : ℤ := (s (ix2 0 j)).toInt

theorem at_row (s : IVec R1024 32) (y : R1024.Idx) : s y = s (ix2 0 (y 1)) := by
  conv_lhs => rw [eq_ix2 y]
  exact congrArg (fun a : Fin 1 => s (ix2 a (y 1))) (Subsingleton.elim _ _)

theorem drop_all (j : R1.Idx) : (Finset.univ.filter fun i : R1x1024.Idx => reducesR.drop i = j) = Finset.univ := by
  refine Finset.filter_true_of_mem fun i _ => ?_
  funext a
  have : ∀ a : Fin 1, Subsingleton (Fin (R1.size a)) := by intro a; fin_cases a; exact inferInstanceAs (Subsingleton (Fin 1))
  exact (this a).elim _ _

theorem roundMax_spec (s : IVec R1024 32) : (∀ j, vals s j ≤ (roundMax s).toInt) ∧ ∃ j, roundMax s = s (ix2 0 j) := by
  have e : roundMax s = (Finset.univ : Finset R1x1024.Idx).fold IntOp.maxsi 2147483648#32 (shapeCast R1x1024 s castR) := by
    unfold roundMax extractAt
    refine (multiReductionI_eq_fold .maxsi _ _ reducesR rfl _).trans ?_
    rw [drop_all]
    rfl
  obtain ⟨-, hle, hmem⟩ := SortNet.fold_maxsi_spec (shapeCast R1x1024 s castR) Finset.univ 2147483648#32
  rw [← e] at hle hmem
  have hle' : ∀ j, vals s j ≤ (roundMax s).toInt := fun j => by
    have := hle ((Shape.reshapeEquiv castR).symm (ix2 0 j)) (Finset.mem_univ _)
    unfold shapeCast at this
    rw [Equiv.apply_symm_apply] at this
    exact this
  refine ⟨hle', ?_⟩
  rcases hmem with h | ⟨i, -, h⟩
  · refine ⟨0, BitVec.eq_of_toInt_eq (le_antisymm ?_ (hle' 0))⟩
    rw [h]; exact SortNet.intMin_toInt_le _
  · refine ⟨(Shape.reshapeEquiv castR i) 1, ?_⟩
    rw [h]; exact at_row s _

theorem cand_apply (s : IVec R1024 32) (m : BitVec 32) (y : R1024.Idx) :
    select (cmpi .sge s (broadcast R1024 m)) (iota .tc R1024 32 [1] iotaR) (broadcast R1024 1024#32) y
      = if m.toInt ≤ vals s (y 1) then BitVec.ofNat 32 (y 1).val else 1024#32 := by
  refine (select_sge (s y) m _ _).trans ?_
  rw [iota_apply, at_row s y]
  rfl

theorem mask_apply (s : IVec R1024 32) (w a : BitVec 32) (i : Fin 1024) :
    select (cmpi .eq (iota .tc R1024 32 [1] iotaR) (broadcast R1024 w)) (broadcast R1024 a) s (ix2 0 i)
      = if BitVec.ofNat 32 i.val = w then a else s (ix2 0 i) := by
  refine (select_eq (iota .tc R1024 32 [1] iotaR (ix2 0 i)) w a _).trans ?_
  rw [iota_apply]

/-- A round names the least position of the greatest word. -/
theorem roundIdx_spec (s : IVec R1024 32) : ∃ j : Fin 1024, roundIdx s = BitVec.ofNat 32 j.val ∧ IsTop (vals s) j := by
  obtain ⟨hle, j₀, hj₀⟩ := roundMax_spec s
  have e : roundIdx s = (Finset.univ : Finset R1x1024.Idx).fold IntOp.minsi 2147483647#32
      (shapeCast R1x1024 (select (cmpi .sge s (broadcast R1024 (roundMax s))) (iota .tc R1024 32 [1] iotaR) (broadcast R1024 1024#32)) castR) := by
    unfold roundIdx extractAt
    refine (multiReductionI_eq_fold .minsi _ _ reducesR rfl _).trans ?_
    rw [drop_all]
    rfl
  obtain ⟨j, hj, hP, hmin⟩ := least_pos (Finset.univ : Finset R1x1024.Idx) (fun i => (Shape.reshapeEquiv castR i) 1)
    (fun j => ⟨(Shape.reshapeEquiv castR).symm (ix2 0 j), Finset.mem_univ _, by rw [Equiv.apply_symm_apply]⟩)
    (fun j => (roundMax s).toInt ≤ vals s j) ⟨j₀, by rw [hj₀]; exact le_refl _⟩
    (shapeCast R1x1024 (select (cmpi .sge s (broadcast R1024 (roundMax s))) (iota .tc R1024 32 [1] iotaR) (broadcast R1024 1024#32)) castR)
    (fun i _ => by
      unfold shapeCast
      exact cand_apply s (roundMax s) _)
  refine ⟨j, e.trans hj, fun i => le_trans (hle i) hP, fun i hi => hmin i ?_⟩
  show _ ≤ vals s i
  rw [hi]; exact hP

/-- The eight lanes as the rounds fill them in: after `r` rounds. -/
def lanes (s : IVec R1024 32) : ℕ → IVec R8 32
  | 0 => broadcast R8 0#32
  | r + 1 => select (cmpi .eq (iota .tc R8 32 [1] iotaR8) (broadcast R8 (BitVec.ofNat 32 r))) (broadcast R8 (roundIdx (rowAt s r))) (lanes s r)

theorem lane_apply (w a : BitVec 32) (o : IVec R8 32) (y : R8.Idx) :
    select (cmpi .eq (iota .tc R8 32 [1] iotaR8) (broadcast R8 w)) (broadcast R8 a) o y = if BitVec.ofNat 32 (y 1).val = w then a else o y := by
  refine (select_eq (iota .tc R8 32 [1] iotaR8 y) w a _).trans ?_
  rw [iota8_apply]

theorem lanes_apply (s : IVec R1024 32) (y : R8.Idx) : ∀ r, r ≤ 8 → lanes s r y = if (y 1).val < r then picks s y else 0#32
  | 0, _ => by rw [if_neg (Nat.not_lt_zero _)]; rfl
  | r + 1, h => by
    have h8 : (y 1).val < 8 := (y 1).isLt
    have e : (BitVec.ofNat 32 (y 1).val = BitVec.ofNat 32 r) ↔ (y 1).val = r := by
      constructor
      · intro e
        have := congrArg BitVec.toNat e
        rwa [BitVec.toNat_ofNat, BitVec.toNat_ofNat, Nat.mod_eq_of_lt (by omega), Nat.mod_eq_of_lt (by omega)] at this
      · intro e; rw [e]
    unfold lanes
    rw [lane_apply, lanes_apply s y r (by omega)]
    by_cases hr : (y 1).val = r
    · rw [if_pos (e.mpr hr), if_pos (by omega)]
      unfold picks
      rw [hr]
    · rw [if_neg (fun h => hr (e.mp h))]
      exact if_congr (by omega) rfl rfl

theorem lanes_eight (s : IVec R1024 32) : lanes s 8 = picks s := by
  funext y
  rw [lanes_apply s y 8 (le_refl _)]
  exact if_pos (y 1).isLt

theorem roundIdx_lt (s : IVec R1024 32) : (roundIdx s).toNat < 1024 := by
  obtain ⟨j, h, -⟩ := roundIdx_spec s
  rw [h, BitVec.toNat_ofNat]
  have := j.isLt
  rw [Nat.mod_eq_of_lt (by omega)]
  exact this

/-- After a round that names `j` the row's words are as they were but −1 at `j`. -/
theorem vals_roundNext (s : IVec R1024 32) (j : Fin 1024) (hj : roundIdx s = BitVec.ofNat 32 j.val) :
    vals (roundNext s) = Function.update (vals s) j (-1) := by
  funext i
  have hi := i.isLt
  have hj' := j.isLt
  have e : roundNext s (ix2 0 i) = if BitVec.ofNat 32 i.val = BitVec.ofNat 32 j.val then 4294967295#32 else s (ix2 0 i) := by
    unfold roundNext
    rw [mask_apply, hj]
  unfold vals
  rw [e]
  by_cases h : i = j
  · subst h
    rw [Function.update_self, if_pos rfl]
    decide
  · rw [Function.update_of_ne h, if_neg]
    intro e'
    refine h (Fin.ext ?_)
    have := congrArg BitVec.toNat e'
    rw [BitVec.toNat_ofNat, BitVec.toNat_ofNat, Nat.mod_eq_of_lt (by omega), Nat.mod_eq_of_lt (by omega)] at this
    exact this

/-- On a row of words that are not negative, the rounds name the positions of the stable sort, greater first. -/
theorem picks_sorted (s : IVec R1024 32) (h0 : ∀ j, 0 ≤ vals s j) (r : Fin 8) :
    picks s (ix2 0 r) = BitVec.ofNat 32 (sortedFrom (gtB (vals s)) (r.castLE (by decide : 8 ≤ 1024))).val := by
  choose σ hσ ht using fun r : ℕ => roundIdx_spec (rowAt s r)
  rw [rounds_sorted (by decide : 8 ≤ 1024) (-1) (vals s) (fun i => lt_of_lt_of_le (by decide) (h0 i)) (fun r : Fin 8 => σ r.val)
    (fun r => vals (rowAt s r)) rfl (fun r => vals_roundNext _ _ (hσ r.val)) (fun r => ht r.val) r]
  exact hσ r.val

end Cert.Rounds
-- ==== Proof.Region.lean ====
/- A kernel region proved with some of its windows held to a RELATION at each point (`Dat.toRRel`), where that relation says at every
   point that writes back exactly what the exact data names: its arrays end at the exact data's contents. The region's record over a
   set of held buffers, with or without prefetched tables. -/
module

public import Idealize.ShloMosaic.Lib.Pipeline.DatRel
public import Idealize.ShloMosaic.Lib.Pipeline.RegionArraysTS
public import Idealize.ShloMosaic.Lib.Pipeline.RegionArraysF
@[expose] public section

noncomputable section

namespace Cert.RelRegion

open Idealize.ShloMosaic Idealize.ShloMosaic.TcCoe
open Idealize.SL Idealize.SL.RA Idealize.SL.BI Idealize.SL.ProofMode Idealize.SL.Sem
open scoped Idealize.SL.BI
open Idealize.SL.BI.BIBase Idealize.SL.BI.Laws
open Idealize.ShloMosaic.Rounds
open Idealize.ShloMosaic.Pipeline

variable {nD : Nat} {τ : Topo} {sig : RefSig} {Val : EltTy → Type} [∀ e, Nonempty (Val e)]
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels}

section One

variable {cfg : Cfg sig Λ₀} {c : Dev nD} (dat : Dat τ Val Ix Name U Lvl cfg c) (fgt : Fin cfg.W → Bool)
  (Rl : (w : Fin cfg.W) → Fin cfg.N → ((cfg.win w).block.Idx → Val (cfg.win w).elt) → Prop)

/-- The relation pins a marked window's block at every point that writes it back. -/
def Pins : Prop := ∀ w, fgt w = true → ∀ u, (cfg.win w).flush u = true → ∀ X, Rl w u X → X = dat.after w u

/-- A marked window's array ends, after the write-backs before point `n`, at what the exact data names. -/
theorem arrAt_marked {w : Fin cfg.W} (hw : fgt w = true) (hp : Pins dat fgt Rl) : ∀ (n : Nat)
    (G : Buf Val ((cfg.win w).arr.view.loc (c.tc : Thread nD τ))), (dat.toRRel fgt Rl).ArrAt w n G → G = dat.arrAt w n
  | 0, _ => fun h => h
  | n + 1, G => by
    intro h
    by_cases hn : n < cfg.N
    · have hR := (dat.toRRel fgt Rl).ArrAt_succ w ⟨n, hn⟩
      have hD := dat.arrAt_succ w ⟨n, hn⟩
      dsimp only at hR hD
      rw [hR] at h
      rw [hD]
      by_cases hfl : (cfg.win w).flush ⟨n, hn⟩ = true
      · rw [if_pos hfl] at h ⊢
        obtain ⟨G₀, X, h0, hl, rfl⟩ := h
        rw [arrAt_marked hw hp n G₀ h0, hp w hw ⟨n, hn⟩ hfl X (Dat.toRRel_leaves dat hw hl)]
      · rw [if_neg hfl] at h ⊢
        exact arrAt_marked hw hp n G h
    · have hN : cfg.N ≤ n := Nat.not_lt.mp hn
      rw [(dat.toRRel fgt Rl).ArrAt_stable w (n + 1) (by omega), ← (dat.toRRel fgt Rl).ArrAt_stable w n hN] at h
      rw [dat.arrAt_stable w (n + 1) (by omega), ← dat.arrAt_stable w n hN]
      exact arrAt_marked hw hp n G h

/-- Every window's array, marked or not, ends at what the exact data names. -/
theorem arrAt_exact (hp : Pins dat fgt Rl) (w : Fin cfg.W) (n : Nat)
    (G : Buf Val ((cfg.win w).arr.view.loc (c.tc : Thread nD τ))) (h : (dat.toRRel fgt Rl).ArrAt w n G) : G = dat.arrAt w n := by
  cases hw : fgt w
  · exact ((dat.toR.override_arrAt (by simp only [hw]) n G).trans (dat.toR_arrAt_iff w n G)).mp h
  · exact arrAt_marked dat fgt Rl hw hp n G h

/-- So the arrays at some contents they may hold are the arrays at the contents the exact data names. -/
theorem arraysAt_exact (hp : Pins dat fgt Rl) (n : Nat) :
    ((dat.toRRel fgt Rl).arraysAt n : sProp 𝕄) ⊢ dat.arrays (dat.arrAt · n) := by
  unfold RDat.arraysAt Dat.arrays
  refine BI.bigSep_mono fun w _ => ?_
  show iprop(∃ G, ⌜(dat.toRRel fgt Rl).ArrAt w n G⌝ ∗ (cfg.win w).arr.view.loc (c.tc : Thread nD τ) ↦[(cfg.win w).arr.view.set]{dat.share w} G)
    ⊢ ((cfg.win w).arr.view.loc (c.tc : Thread nD τ) ↦[(cfg.win w).arr.view.set]{dat.share w} dat.arrAt w n : sProp 𝕄)
  iintro ⟨%G, %hG, H⟩
  rw [arrAt_exact dat fgt Rl hp w n G hG]
  iexact H

end One

variable {P : Type} [Fintype P]
variable (pcs : P → PCfg sig Λ₀ Val) (a : (p : P) → (pcs p).Adm)
  (pdats : (p : P) → (c : Dev nD) → Dat τ Val Ix Name U Lvl (pin pcs a p) c)
  (fg : (p : P) → Fin (pin pcs a p).W → Bool)
  (Rl : (p : P) → (c : Dev nD) → (w : Fin (pin pcs a p).W) → Fin (pin pcs a p).N
    → (((pin pcs a p).win w).block.Idx → Val ((pin pcs a p).win w).elt) → Prop)

/-- The family of relational data: each pipeline's exact data with its marked windows held to the relation. -/
abbrev rdats : (p : P) → (c : Dev nD) → RDat τ Val Ix Name U Lvl (pin pcs a p) c :=
  fun p c => (pdats p c).toRRel (fg p) (Rl p c)

variable (ι : Ix) (defs₀ : Defs nD τ sig Val Λ₀) (𝒱₀ : Variants)
  (L : GSem nD τ sig → Finset Ix) (lv : GSem nD τ sig → Ix → Lvl) (p : P) (D : Dev nD → CellTallies nD τ sig Ix)

/-- The record of a region entered holding the buffers `S` at `W c` with the core owing `D c`, and left holding them at
    `afterRegion (pdats p c) (W c)`: its arrays at the exact data's final contents, everything else as it was. -/
def seg (S : Finset (DevRef τ sig)) (kit : PLaunchFacts (nD := nD) (τ := τ) pcs p)
    (hS : arrRefs (pcs p).spec ⊆ S) (hS' : tblRefs (pcs p).pre ⊆ S)
    (hbody : ∀ c, (rdats pcs a pdats fg Rl p c).BodyObligation defs₀ 𝒱₀ ι Set.univ)
    (hpin : ∀ c, Pins (pdats p c) (fg p) (Rl p c))
    (howed : ∀ c t, (pdats p c).owed t = D c) (hrec : ∀ c, (pdats p c).recorded 0 = Set.univ)
    (hshare : ∀ c w, (pdats p c).share w = fullShare)
    (hin : ∀ c, iprop(scopedRest (pin pcs a p).spec c ∗ prefHeld (pcs p).pre c (fun _ => fullShare) (a p).1) ⊢ (pdats p c).Φ 0)
    (hout : ∀ c, (pdats p c).Φ (Fin.last (pin pcs a p).N)
      ⊢ iprop(scopedRest (pin pcs a p).spec c ∗ prefHeld (pcs p).pre c (fun _ => fullShare) (a p).1))
    (b : Dev nD → Lvl) (hcut : LevelCut pcs a ι L lv p D b) (W : Dev nD → Valuation τ sig Val)
    (hW : ∀ c w, (pdats p c).arrAt w 0 = W c (Proc.devRef .tc (arrRef (pin pcs a p).spec w)))
    (hT : ∀ c k, (a p).1 k = W c (Proc.devRef .tc ((pcs p).pre.ref k))) :
    Pipeline.RDat.RegionSeg pcs a (rdats pcs a pdats fg Rl) ι defs₀ 𝒱₀ L lv p where
  win := kit.to₀.win
  block_pos := kit.to₀.block_pos
  stage_whole := kit.to₀.stage_whole
  K := PEmpty
  osem k := k.elim
  ho := OwnSemFacts.none _
  hbody := hbody
  hwaits c := Pipeline.RDat.cellsWaits_of_cut (pin pcs a) (rdats pcs a pdats fg Rl) ι p c (b c) (D c) (howed c) (hcut.hι c) (hcut.hιb c) (hcut.hD c)
  pre c := iprop(StableHlo.held (c.tc : Thread nD τ) S (W c) ∗ ∃ Wd, owes (c : Thread nD τ) (D c) Wd)
  post c := iprop(StableHlo.held (c.tc : Thread nD τ) S (afterRegion (pdats p c) (W c)) ∗ ∃ Wd, owes (c : Thread nD τ) (D c) Wd)
  X _ := iprop(emp)
  Y c := prefHeld (pcs p).pre c (fun _ => fullShare) (a p).1
  Z c := StableHlo.held (c.tc : Thread nD τ) ((S \ arrRefs (pcs p).spec) \ tblRefs (pcs p).pre) (W c)
  hentry c := by
    rw [ownSems0_none, StableHlo.held_sub_split (c.tc : Thread nD τ) hS (W c),
      StableHlo.held_sub_split (c.tc : Thread nD τ) (tblRefs_sub_sdiff (pcs p).spec (pcs p).pre kit.pre.disj hS') (W c),
      ← arrays_held pcs a pdats p kit c (hshare c) ((pdats p c).arrAt · 0) (W c) (hW c),
      ← prefHeld_held (pcs p).pre kit.pre.inj c (a p).1 (W c) (hT c)]
    iintro ⟨⟨⟨Ha, Hp, Hu⟩, HO⟩, -, -⟩
    imodintro
    isplitl [Ha]
    · iapply (show ((pdats p c).arrays ((pdats p c).arrAt · 0) : sProp 𝕄)
        ⊢ (rdats pcs a pdats fg Rl p c).arrays (rdats pcs a pdats fg Rl p c).A from .rfl)
      iexact Ha
    isplitl [Hp]; · iexact Hp
    isplitl [HO]
    · unfold RDat.owesAt owesWithin RDat.bound
      rw [show (rdats pcs a pdats fg Rl p c).owed 0 = D c from howed c 0,
        show (rdats pcs a pdats fg Rl p c).recorded 0 = Set.univ from hrec c]
      icases HO with ⟨%W', HO⟩; iexists W'; isplitr; · ipureintro; exact fun _ _ => Or.inl trivial
      iexact HO
    isplitr; · iempintro
    iexact Hu
  hin c := by
    refine BIBase.Entails.trans ?_ (hin c)
    iintro ⟨-, Hp, Hr⟩
    isplitl [Hr] <;> iassumption
  hout c := by
    refine (hout c).trans ?_
    rw [ownSems0_none]
    iintro ⟨Hr, Hp⟩
    isplitl [Hp]; · iexact Hp
    isplitr; · iempintro
    iexact Hr
  hexit c := by
    refine BIBase.Entails.trans ?_ (fupd_intro (PROP := sProp 𝕄))
    rw [StableHlo.held_sub_split (c.tc : Thread nD τ) hS (afterRegion (pdats p c) (W c)),
      StableHlo.held_sub_split (c.tc : Thread nD τ) (tblRefs_sub_sdiff (pcs p).spec (pcs p).pre kit.pre.disj hS') (afterRegion (pdats p c) (W c)),
      StableHlo.held_congr (c.tc : Thread nD τ) (S := (S \ arrRefs (pcs p).spec) \ tblRefs (pcs p).pre) (V := afterRegion (pdats p c) (W c)) (V' := W c)
        (fun b hb => afterRegion_off (pdats p c) (W c) S b (Finset.mem_sdiff.mp hb).1),
      ← arrays_held pcs a pdats p kit c (hshare c) ((pdats p c).arrAt · (pin pcs a p).N) (afterRegion (pdats p c) (W c))
        (fun w => (afterRegion_arr (pdats p c) (W c) kit.win.arr_inj w).symm),
      ← prefHeld_held (pcs p).pre kit.pre.inj c (a p).1 (afterRegion (pdats p c) (W c))
        (fun k => (hT c k).trans (afterRegion_of_not_arr (pdats p c) (W c) (kit.pre.disj k)).symm)]
    iintro ⟨Ha, HO, Hp, Hu⟩
    ihave Ha := arraysAt_exact (pdats p c) (fg p) (Rl p c) (hpin c) (pin pcs a p).N $$ Ha
    isplitl [Ha Hp Hu]
    · isplitl [Ha]; · iexact Ha
      isplitl [Hp]; · iexact Hp
      iexact Hu
    unfold RDat.owesAt owesWithin
    rw [show (rdats pcs a pdats fg Rl p c).owed (Fin.last _) = D c from howed c (Fin.last _)]
    icases HO with ⟨%W', -, HO⟩; iexists W'; iexact HO

end Cert.RelRegion
-- ==== Proof.KernelIdeal.CountBody.lean ====
/- The count kernel's body, one grid point at a time: what it leaves in its scratch and in its result,
   as values of the blocks it is handed. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.DatRel
public import Idealize.ShloMosaic.Lib.VecWindow
public import Idealize.ShloMosaic.Lib.StableHlo.Run
public import Idealize.ShloMosaic.Lib.Tactic
public import Idealize.ShloMosaic.Lib.Quiescent

@[expose] public section

set_option maxRecDepth 16384

noncomputable section

namespace Cert.KernelIdeal.Count

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- How often each key is among the eight best of the 256 queries of one block: the block's matches, eight
    times the best of each row picked, counted and put out of reach. -/
def blockCounts (q : Vec F S256x768 .f32) (k : Vec F S1024x768 .f32) (qn : Vec F S256x1 .f32) (kn : Vec F S1x1024 .f32)
    (msk : Vec F S256x1 .i32) : IVec S1x1024 32 :=
  let v24 : IVec S256x1024 32 := iota .tc S256x1024 32 [1] iota_S256x1024_d1_w32
  let v23 := k0_pay17 q k msk qn kn
  let v35 := k0_pay18 q k msk qn kn
  let v39 := k0_pay19 q k msk qn kn
  let v71 := k0_pay24 v23 v24 v35 v39
  let v73 := k0_pay25 v23 v24 v35
  let v83 := k0_pay26 v23 v24 v35
  let v84 := k0_pay27 v23 v24 v35
  k0_pay1 v24 (k0_pay32 v24 v71 v73 v83 v84) (k0_pay33 v24 v73 v83) (k0_pay34 v24 v73 v83)

/-- The eight keys of the highest counts, each the lowest index among equals. -/
def topCounts (s : IVec S1x1024 32) : IVec S1x8 32 :=
  let v162 : IVec S1x1024 32 := iota .tc S1x1024 32 [1] iota_S1x1024_d1_w32
  let v163 : IVec S1x8 32 := iota .tc S1x8 32 [1] iota_S1x8_d1_w32
  let v200 := k0_pay6 (F := F) s
  let v204 := k0_pay7 (F := F) s
  let v206 := k0_pay8 (F := F) s
  let v240 := k0_pay10 v162 v163 v200 v204 v206
  let v244 := k0_pay11 v162 v204 v206
  let v254 := k0_pay12 v162 v204 v206
  k0_pay4 v162 v163 (k0_pay14 v162 v244 v254) (k0_pay15 v162 v163 v240 v244 v254) (k0_pay16 v162 v244 v254) 4294967295#32

theorem zeros2 : (![0, 0] : Fin 2 → Nat) = fun _ => 0 := funext fun a => by fin_cases a <;> rfl

/-- Off the first point the scratch is not set. -/
theorem cond1_off (i : grid0.Coords) (hi : (i 0).val ≠ 0) : ¬ Scalar.cmpi .ne (Scalar.extui (Scalar.cmpi .eq (BitVec.ofNat 32 (i 0).val) 0#32) : BitVec 32) 0#32 = 1#1 := by
  have h : ∀ n : Fin 16, n.val ≠ 0 → ¬ Scalar.cmpi .ne (Scalar.extui (Scalar.cmpi .eq (BitVec.ofNat 32 n.val) 0#32) : BitVec 32) 0#32 = 1#1 := by decide
  exact h (i 0) hi

/-- Off the first point the scratch is added to. -/
theorem cond2_on (i : grid0.Coords) (hi : (i 0).val ≠ 0) : Scalar.cmpi .ne (Scalar.extui (Scalar.cmpi .sgt (BitVec.ofNat 32 (i 0).val) 0#32) : BitVec 32) 0#32 = 1#1 := by
  have h : ∀ n : Fin 16, n.val ≠ 0 → Scalar.cmpi .ne (Scalar.extui (Scalar.cmpi .sgt (BitVec.ofNat 32 n.val) 0#32) : BitVec 32) 0#32 = 1#1 := by decide
  exact h (i 0) hi

/-- Off the last point the result is left alone. -/
theorem cond3_off (i : grid0.Coords) (hi : (i 0).val ≠ 15) : ¬ k0_cond3 i = 1#1 := by
  have h : ∀ n : Fin 16, n.val ≠ 15 → ¬ Scalar.cmpi .ne (Scalar.extui (Scalar.cmpi .eq (BitVec.ofNat 32 n.val) 15#32) : BitVec 32) 0#32 = 1#1 := by decide
  exact h (i 0) hi

section Runs

variable (c : Dev nD) (i : grid0.Coords)
  (M1 : Memref sig .tc .vmem S256x768 .f32) (h1 : M1.IsWhole) (M2 : Memref sig .tc .vmem S1024x768 .f32) (h2 : M2.IsWhole)
  (M3 : Memref sig .tc .vmem S256x1 .f32) (h3 : M3.IsWhole) (M4 : Memref sig .tc .vmem S1x1024 .f32) (h4 : M4.IsWhole)
  (M5 : Memref sig .tc .vmem S256x1 .i32) (h5 : M5.IsWhole) (M6 : Memref sig .tc .vmem S1x8 .i32) (h6 : M6.IsWhole)
  (M7 : Memref sig .tc .vmem S1x1024 .i32) (h7 : M7.IsWhole)
  (q : Vec F S256x768 .f32) (k : Vec F S1024x768 .f32) (qn : Vec F S256x1 .f32) (kn : Vec F S1x1024 .f32)
  (msk : Vec F S256x1 .i32)

/-- The first point: the scratch is set to the block's counts, whatever it held, and the result is left alone. -/
theorem run_first (hi : (i 0).val = 0) (E : Set ℕ) (K : PUnit → sProp 𝕄) :
    iprop(owns (c : Thread nD τ) M1 fullShare q ∗ owns (c : Thread nD τ) M2 fullShare k ∗ owns (c : Thread nD τ) M3 fullShare qn ∗ owns (c : Thread nD τ) M4 fullShare kn ∗ owns (c : Thread nD τ) M5 fullShare msk
        ∗ (∃ s, owns (c : Thread nD τ) M7 fullShare s)
        ∗ (iprop(owns (c : Thread nD τ) M1 fullShare q ∗ owns (c : Thread nD τ) M2 fullShare k ∗ owns (c : Thread nD τ) M3 fullShare qn ∗ owns (c : Thread nD τ) M4 fullShare kn ∗ owns (c : Thread nD τ) M5 fullShare msk
            ∗ owns (c : Thread nD τ) M7 fullShare (blockCounts q k qn kn msk)) -∗ K ⟨⟩))
      ⊢ wp frame (wpE (defs₀ (F := F)) Variants.none c none) E (cc0__count_kernel i M1 h1 M2 h2 M3 h3 M4 h4 M5 h5 M6 h6 M7 h7) K := by
  unfold owns
  iintro ⟨⟨%f1, %hf1, H1⟩, ⟨%f2, %hf2, H2⟩, ⟨%f3, %hf3, H3⟩, ⟨%f4, %hf4, H4⟩, ⟨%f5, %hf5, H5⟩, ⟨%s, %f7, %hf7, H7⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7
  have c1 : Scalar.cmpi .ne (Scalar.extui (Scalar.cmpi .eq (BitVec.ofNat 32 (i 0).val) 0#32) : BitVec 32) 0#32 = 1#1 := by rw [hi]; decide
  have c2 : ¬ Scalar.cmpi .ne (Scalar.extui (Scalar.cmpi .sgt (BitVec.ofNat 32 (i 0).val) 0#32) : BitVec 32) 0#32 = 1#1 := by rw [hi]; decide
  have c3 : ¬ k0_cond3 i = 1#1 := by unfold k0_cond3; rw [hi]; decide
  sl_unfold [cc0__count_kernel]
  sl_exec_parts!
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  iexists _; isplitr; swap; · iexact H7
  ipureintro
  sl_unfold_words
  rw [View.read_writes_full]
  unfold k0_pay2
  simp only [View.readAt_eq_ld, h1.read_unread, h2.read_unread, h3.read_unread, h4.read_unread, h5.read_unread, h7.read_unread,
    View.ld_unit_zero (S := S256x768) zeros2, View.ld_unit_zero (S := S1024x768) zeros2, View.ld_unit_zero (S := S256x1) zeros2,
    View.ld_unit_zero (S := S1x1024) zeros2, shapeCast_self]
  rfl

/-- A point between the first and the last: the block's counts are added to the scratch, and the result is left alone. -/
theorem run_mid (s : Vec F S1x1024 .i32) (hi : (i 0).val ≠ 0) (hi' : (i 0).val ≠ 15) (E : Set ℕ) (K : PUnit → sProp 𝕄) :
    iprop(owns (c : Thread nD τ) M1 fullShare q ∗ owns (c : Thread nD τ) M2 fullShare k ∗ owns (c : Thread nD τ) M3 fullShare qn ∗ owns (c : Thread nD τ) M4 fullShare kn ∗ owns (c : Thread nD τ) M5 fullShare msk
        ∗ owns (c : Thread nD τ) M7 fullShare s
        ∗ (iprop(owns (c : Thread nD τ) M1 fullShare q ∗ owns (c : Thread nD τ) M2 fullShare k ∗ owns (c : Thread nD τ) M3 fullShare qn ∗ owns (c : Thread nD τ) M4 fullShare kn ∗ owns (c : Thread nD τ) M5 fullShare msk
            ∗ owns (c : Thread nD τ) M7 fullShare (addi s (blockCounts q k qn kn msk))) -∗ K ⟨⟩))
      ⊢ wp frame (wpE (defs₀ (F := F)) Variants.none c none) E (cc0__count_kernel i M1 h1 M2 h2 M3 h3 M4 h4 M5 h5 M6 h6 M7 h7) K := by
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7
  have c1 : ¬ Scalar.cmpi .ne (Scalar.extui (Scalar.cmpi .eq (BitVec.ofNat 32 (i 0).val) 0#32) : BitVec 32) 0#32 = 1#1 := cond1_off i hi
  have c2 : Scalar.cmpi .ne (Scalar.extui (Scalar.cmpi .sgt (BitVec.ofNat 32 (i 0).val) 0#32) : BitVec 32) 0#32 = 1#1 := cond2_on i hi
  have c3 : ¬ k0_cond3 i = 1#1 := cond3_off i hi'
  sl_unfold [cc0__count_kernel]
  sl_exec_parts!
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  iexists _; isplitr; swap; · iexact H7
  ipureintro
  sl_unfold_words
  rw [View.read_writes_full]
  unfold k0_pay3
  simp only [View.readAt_eq_ld, h1.read_unread, h2.read_unread, h3.read_unread, h4.read_unread, h5.read_unread, h7.read_unread,
    View.ld_unit_zero (S := S256x768) zeros2, View.ld_unit_zero (S := S1024x768) zeros2, View.ld_unit_zero (S := S256x1) zeros2,
    View.ld_unit_zero (S := S1x1024) zeros2, shapeCast_self]
  rfl

/-- The last point: the block's counts are added to the scratch, and the result is set to the eight keys of the
    highest counts, whatever it held. -/
theorem run_last (s : Vec F S1x1024 .i32) (hi : (i 0).val = 15) (E : Set ℕ) (K : PUnit → sProp 𝕄) :
    iprop(owns (c : Thread nD τ) M1 fullShare q ∗ owns (c : Thread nD τ) M2 fullShare k ∗ owns (c : Thread nD τ) M3 fullShare qn ∗ owns (c : Thread nD τ) M4 fullShare kn ∗ owns (c : Thread nD τ) M5 fullShare msk
        ∗ owns (c : Thread nD τ) M7 fullShare s ∗ (∃ o, owns (c : Thread nD τ) M6 fullShare o)
        ∗ (iprop(owns (c : Thread nD τ) M1 fullShare q ∗ owns (c : Thread nD τ) M2 fullShare k ∗ owns (c : Thread nD τ) M3 fullShare qn ∗ owns (c : Thread nD τ) M4 fullShare kn ∗ owns (c : Thread nD τ) M5 fullShare msk
            ∗ owns (c : Thread nD τ) M7 fullShare (addi s (blockCounts q k qn kn msk))
            ∗ owns (c : Thread nD τ) M6 fullShare (topCounts (F := F) (addi s (blockCounts q k qn kn msk)))) -∗ K ⟨⟩))
      ⊢ wp frame (wpE (defs₀ (F := F)) Variants.none c none) E (cc0__count_kernel i M1 h1 M2 h2 M3 h3 M4 h4 M5 h5 M6 h6 M7 h7) K := by
  unfold owns
  iintro ⟨⟨%f1, %hf1, H1⟩, ⟨%f2, %hf2, H2⟩, ⟨%f3, %hf3, H3⟩, ⟨%f4, %hf4, H4⟩, ⟨%f5, %hf5, H5⟩, ⟨%f7, %hf7, H7⟩, ⟨%o, %f6, %hf6, H6⟩, Hk⟩
  obtain rfl := h1.eq_unread hf1; obtain rfl := h2.eq_unread hf2; obtain rfl := h3.eq_unread hf3; obtain rfl := h4.eq_unread hf4
  obtain rfl := h5.eq_unread hf5; obtain rfl := h7.eq_unread hf7; obtain rfl := h6.eq_unread hf6
  have c1 : ¬ Scalar.cmpi .ne (Scalar.extui (Scalar.cmpi .eq (BitVec.ofNat 32 (i 0).val) 0#32) : BitVec 32) 0#32 = 1#1 := by rw [hi]; decide
  have c2 : Scalar.cmpi .ne (Scalar.extui (Scalar.cmpi .sgt (BitVec.ofNat 32 (i 0).val) 0#32) : BitVec 32) 0#32 = 1#1 := by rw [hi]; decide
  have c3 : k0_cond3 i = 1#1 := by unfold k0_cond3; rw [hi]; decide
  sl_unfold [cc0__count_kernel]
  sl_exec_parts!
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H7]
  · iexists _; isplitr; swap; · iexact H7
    ipureintro
    sl_unfold_words
    rw [View.read_writes_full]
    unfold k0_pay3
    simp only [View.readAt_eq_ld, h1.read_unread, h2.read_unread, h3.read_unread, h4.read_unread, h5.read_unread, h7.read_unread,
      View.ld_unit_zero (S := S256x768) zeros2, View.ld_unit_zero (S := S1024x768) zeros2, View.ld_unit_zero (S := S256x1) zeros2,
      View.ld_unit_zero (S := S1x1024) zeros2, shapeCast_self]
    rfl
  iexists _; isplitr; swap; · iexact H6
  ipureintro
  sl_unfold_words
  rw [View.read_writes_full]
  simp only [View.readAt_eq_ld, h1.read_unread, h2.read_unread, h3.read_unread, h4.read_unread, h5.read_unread, h7.read_unread,
    View.ld_unit_zero (S := S256x768) zeros2, View.ld_unit_zero (S := S1024x768) zeros2, View.ld_unit_zero (S := S256x1) zeros2,
    View.ld_unit_zero (S := S1x1024) zeros2, View.readCov_unit_zero (S := S1x1024) _ zeros2]
  unfold k0_pay3
  simp only [shapeCast_self]
  rfl

end Runs

end Cert.KernelIdeal.Count
-- ==== Proof.KernelIdeal.TopCounts.lean ====
/- What the counting kernel's last point writes is the eight positions the rounds on the counts name. -/
module

public import proofs.«01_k».proof.Proof.KernelIdeal.CountBody
public import proofs.«01_k».proof.Proof.Rounds
@[expose] public section

set_option maxRecDepth 16384

noncomputable section

namespace Cert.KernelIdeal.Count

open Idealize.ShloMosaic Cert.KernelIdeal.Gen Cert.Rounds

variable {F : FTy → Type} [FloatOps F]

/-- The greatest words of the row, as the printed reduction leaves them. -/
abbrev red (s : IVec S1x1024 32) : IVec S1 32 := multiReductionI .maxsi [1, 2] S1 (shapeCast S1x1x1024 s shapeCasts_S1x1024_S1x1x1024) 2147483648#32 reduces_S1x1x1024_S1 rfl
abbrev io : IVec S1x1024 32 := iota .tc S1x1024 32 [1] iota_S1x1024_d1_w32
abbrev io8 : IVec S1x8 32 := iota .tc S1x8 32 [1] iota_S1x8_d1_w32

/-- The reduction that finds the first position of a largest entry. -/
def redIdx (s : IVec S1x1024 32) : IVec S1 32 :=
  multiReductionI .minsi [1, 2] S1
    (shapeCast S1x1x1024 (select (cmpi .sge s (broadcast S1x1024 (extractAt ![0, 0, 0] (shapeCast S1x1x1 (red s) shapeCasts_S1_S1x1x1) inpos_S1x1x1_p0_0_0))) io (broadcast S1x1024 1024#32)) shapeCasts_S1x1024_S1x1x1024)
    2147483647#32 reduces_S1x1x1024_S1 rfl

theorem pay5_eq (s : IVec S1x1024 32) : k0_pay5 (F := F) s = roundNext s := rfl
theorem pay7_eq (s : IVec S1x1024 32) : k0_pay7 (F := F) s = roundNext (roundNext s) := by
  unfold k0_pay7
  rw [pay5_eq]
  generalize roundNext s = s1
  rfl
theorem pay8_eq (s : IVec S1x1024 32) : k0_pay8 (F := F) s = red (roundNext (roundNext s)) := by
  unfold k0_pay8
  rw [pay7_eq]
theorem pay6_eq (s : IVec S1x1024 32) : k0_pay6 (F := F) s = lanes s 2 := by
  unfold k0_pay6 lanes lanes lanes rowAt rowAt
  rw [pay5_eq]
  generalize roundNext s = s1
  rfl
theorem pay9_eq (s : IVec S1x1024 32) : k0_pay9 io s (red s) = roundNext s := rfl
theorem pay11_eq (s : IVec S1x1024 32) : k0_pay11 io s (red s) = roundNext (roundNext s) := by
  unfold k0_pay11
  rw [pay9_eq]
  generalize roundNext s = s1
  rfl
theorem pay12_eq (s : IVec S1x1024 32) : k0_pay12 io s (red s) = redIdx (roundNext (roundNext s)) := by
  unfold k0_pay12
  rw [pay11_eq]
  generalize roundNext (roundNext s) = s2
  rfl
theorem pay10_eq (s : IVec S1x1024 32) (o : IVec S1x8 32) : k0_pay10 io io8 o s (red s)
    = select (cmpi .eq io8 (broadcast S1x8 3#32)) (broadcast S1x8 (roundIdx (roundNext s)))
        (select (cmpi .eq io8 (broadcast S1x8 2#32)) (broadcast S1x8 (roundIdx s)) o) := by
  unfold k0_pay10
  rw [pay9_eq]
  generalize roundNext s = s1
  rfl
theorem pay13_eq (s : IVec S1x1024 32) : k0_pay13 io s (redIdx s) = roundNext s := rfl
theorem pay14_eq (s : IVec S1x1024 32) : k0_pay14 io s (redIdx s) = roundNext (roundNext s) := by
  unfold k0_pay14
  rw [pay13_eq]
  generalize roundNext s = s1
  rfl
theorem pay15_eq (s : IVec S1x1024 32) (o : IVec S1x8 32) : k0_pay15 io io8 o s (redIdx s)
    = select (cmpi .eq io8 (broadcast S1x8 6#32)) (broadcast S1x8 (roundIdx (roundNext (roundNext s))))
        (select (cmpi .eq io8 (broadcast S1x8 5#32)) (broadcast S1x8 (roundIdx (roundNext s)))
          (select (cmpi .eq io8 (broadcast S1x8 4#32)) (broadcast S1x8 (roundIdx s)) o)) := by
  unfold k0_pay15
  rw [pay14_eq, pay13_eq]
  generalize roundNext (roundNext s) = s2
  generalize roundNext s = s1
  rfl
theorem pay4_eq (s : IVec S1x1024 32) (o : IVec S1x8 32) : k0_pay4 io io8 (roundNext (roundNext s)) o (k0_pay16 io s (redIdx s)) 4294967295#32
    = select (cmpi .eq io8 (broadcast S1x8 7#32)) (broadcast S1x8 (roundIdx (roundNext (roundNext (roundNext s))))) o := by
  unfold k0_pay4 k0_pay16
  rw [pay14_eq]
  generalize roundNext (roundNext s) = s2
  have e : select (cmpi .eq io (broadcast S1x1024 (roundIdx s2))) (broadcast S1x1024 4294967295#32) s2 = roundNext s2 := rfl
  dsimp only
  rw [show (extractAt ![0, 0, 0] (shapeCast S1x1x1 (multiReductionI .minsi [1, 2] S1
      (shapeCast S1x1x1024 (select (cmpi .sge s2 (broadcast S1x1024 (extractAt ![0, 0, 0] (shapeCast S1x1x1 (red s2) shapeCasts_S1_S1x1x1) inpos_S1x1x1_p0_0_0))) io (broadcast S1x1024 1024#32)) shapeCasts_S1x1024_S1x1x1024)
      2147483647#32 reduces_S1x1x1024_S1 rfl) shapeCasts_S1_S1x1x1) inpos_S1x1x1_p0_0_0) = roundIdx s2 from rfl, e]
  generalize roundNext s2 = s3
  rfl

theorem topCounts_eq (s : IVec S1x1024 32) : topCounts (F := F) s = picks s := by
  unfold topCounts
  dsimp only
  rw [pay6_eq, pay7_eq, pay8_eq, pay11_eq, pay12_eq, pay14_eq, pay10_eq, pay15_eq, pay4_eq]
  exact lanes_eight s

end Cert.KernelIdeal.Count
-- ==== Proof.KernelIdeal.CountDat.lean ====
/- The count kernel's region: what each point finds and leaves, from the arrays the region is entered with. -/
module

public import proofs.«01_k».proof.Proof.KernelIdeal.CountBody

@[expose] public section

set_option maxRecDepth 16384

noncomputable section

namespace Cert.KernelIdeal.Count

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

variable (c : Dev nD) (X : (b : Ref sig .tc) → Buf (Elt F) ((c : Thread nD τ).loc b))

/-- The blocks a point is handed: the queries, the keys, the queries' norms, the keys' norms, the mask. -/
def qB (t : Fin cfg0.N) : Vec F S256x768 .f32 := ((cfg0.win 0).blk t).view.read (Elt F) (X main_arg0)
def kB (t : Fin cfg0.N) : Vec F S1024x768 .f32 := ((cfg0.win 1).blk t).view.read (Elt F) (X main_arg1)
def qnB (t : Fin cfg0.N) : Vec F S256x1 .f32 := ((cfg0.win 2).blk t).view.read (Elt F) (X main_v2)
def knB (t : Fin cfg0.N) : Vec F S1x1024 .f32 := ((cfg0.win 3).blk t).view.read (Elt F) (X main_v6)
def mskB (t : Fin cfg0.N) : Vec F S256x1 .i32 := ((cfg0.win 4).blk t).view.read (Elt F) (X main_c)

/-- The counts of the point's own block. -/
def ptCounts (t : Fin cfg0.N) : IVec S1x1024 32 := blockCounts (qB c X t) (kB c X t) (qnB c X t) (knB c X t) (mskB c X t)

/-- The running counts after point `n`. -/
def counts : (n : ℕ) → n < cfg0.N → IVec S1x1024 32
  | 0, h => ptCounts c X ⟨0, h⟩
  | n + 1, h => addi (counts n (Nat.lt_of_succ_lt h)) (ptCounts c X ⟨n + 1, h⟩)

theorem lt15 : 15 < cfg0.N := by show 15 < grid0.N; rw [N_0]; decide

/-- The result: the eight keys of the highest counts after the last point. -/
def result : IVec S1x8 32 := topCounts (F := F) (counts c X 15 lt15)

/-- The scoped buffers other than the scratch and the region's staging buffers. -/
def other : sProp 𝕄 := Pipeline.scopedRestBut (Ix := Unit) (Name := ℕ) (U := UR sig nD τ) (Lvl := ℕ) (Val := Elt F) spec0 c [cc0_scratch0]

/-- The scoped buffers are the scratch at anything and the others. -/
theorem rest_eq : (Pipeline.scopedRest (Ix := Unit) (Name := ℕ) (U := UR sig nD τ) (Lvl := ℕ) (Val := Elt F) spec0 c : sProp 𝕄)
    = iprop((∃ f : Buf (Elt F) ((c : Thread nD τ).loc cc0_scratch0), ((c : Thread nD τ).loc cc0_scratch0) ↦{fullShare} f) ∗ other c) := by
  rw [Pipeline.scopedRest_split_of_list spec0 c [cc0_scratch0] (by decide) (by decide)]
  rfl

/-- Between points: the scratch at the running counts (before the first, at anything), the other scoped buffers. -/
def Inv (n : Fin (cfg0.N + 1)) : sProp 𝕄 :=
  iprop((∃ s : Vec F S1x1024 .i32, ⌜∀ (k : ℕ) (h : k < cfg0.N), n.val = k + 1 → s = counts c X k h⌝
      ∗ owns (c : Thread nD τ) (Memref.whole cc0_scratch0) fullShare s) ∗ other c)

theorem inv_first : (Pipeline.scopedRest (Ix := Unit) (Name := ℕ) (U := UR sig nD τ) (Lvl := ℕ) (Val := Elt F) spec0 c : sProp 𝕄) ⊢ Inv c X 0 := by
  rw [rest_eq]; unfold Inv
  iintro ⟨⟨%f, Hf⟩, Ho⟩
  isplitl [Hf]
  · iexists f; isplitr
    · ipureintro; intro k h hk; exact absurd hk (Nat.succ_ne_zero k).symm
    rw [owns_whole_eq]; iexists f; isplitr
    · ipureintro; rfl
    iexact Hf
  iexact Ho

theorem inv_last (n : Fin (cfg0.N + 1)) : Inv c X n ⊢ (Pipeline.scopedRest (Ix := Unit) (Name := ℕ) (U := UR sig nD τ) (Lvl := ℕ) (Val := Elt F) spec0 c : sProp 𝕄) := by
  rw [rest_eq]; unfold Inv
  simp only [owns_whole_eq]
  iintro ⟨⟨%s, -, %f, -, Hf⟩, Ho⟩
  isplitl [Hf]
  · iexists f; iexact Hf
  iexact Ho

/-- The region's proof data. -/
def dat : Dat τ (Elt F) Unit ℕ (UR sig nD τ) ℕ cfg0 c where
  A w := X (Pipeline.arrRef spec0 w)
  after w t := match w with
    | ⟨0, _⟩ => qB c X t
    | ⟨1, _⟩ => kB c X t
    | ⟨2, _⟩ => qnB c X t
    | ⟨3, _⟩ => knB c X t
    | ⟨4, _⟩ => mskB c X t
    | ⟨5, _⟩ => result c X
  Φ n := Inv c X n
  q _ := fullShare
  owed _ := 0

theorem after_5 (t : Fin cfg0.N) : (dat c X).after 5 t = result c X := by dsimp only [dat]

theorem before_0 (t : Fin cfg0.N) (d) : (dat c X).before 0 t d = qB c X t :=
  (dat c X).before_in_eq_fetched 0 rfl (fun _ => rfl) (fun _ _ _ => rfl) (fun _ => rfl) t d
theorem before_1 (t : Fin cfg0.N) (d) : (dat c X).before 1 t d = kB c X t :=
  (dat c X).before_in_eq_fetched 1 rfl (fun _ => rfl) (fun _ _ _ => rfl) (fun _ => rfl) t d
theorem before_2 (t : Fin cfg0.N) (d) : (dat c X).before 2 t d = qnB c X t :=
  (dat c X).before_in_eq_fetched 2 rfl (fun _ => rfl) (fun _ _ _ => rfl) (fun _ => rfl) t d
theorem before_3 (t : Fin cfg0.N) (d) : (dat c X).before 3 t d = knB c X t :=
  (dat c X).before_in_eq_fetched 3 rfl (fun _ => rfl) (fun _ _ _ => rfl) (fun _ => rfl) t d
theorem before_4 (t : Fin cfg0.N) (d) : (dat c X).before 4 t d = mskB c X t :=
  (dat c X).before_in_eq_fetched 4 rfl (fun _ => rfl) (fun _ _ _ => rfl) (fun _ => rfl) t d

theorem coords_val (t : Fin cfg0.N) : ((grid0.coords t) 0).val = t.val := by
  have h : ∀ t : Fin grid0.N, ((grid0.coords t) 0).val = t.val := by decide +kernel
  exact h t

/-- The condition the result's write is under holds at the last point only. -/
theorem idle_5 (t : Fin cfg0.N) (h : t.val ≠ 15) : cfg0.idle 5 (cfg0.grid.coords t) = true := by
  show (!(k0_cond3 (grid0.coords t) == 1#1)) = true
  rw [Bool.not_eq_true', beq_eq_false_iff_ne]
  exact cond3_off _ (by rw [coords_val]; exact h)

theorem live_5 (t : Fin cfg0.N) (h : t.val = 15) : cfg0.idle 5 (cfg0.grid.coords t) = false := by
  show (!(k0_cond3 (grid0.coords t) == 1#1)) = false
  have e : k0_cond3 (grid0.coords t) = 1#1 := by unfold k0_cond3; rw [coords_val, h]; decide
  rw [e]; rfl

theorem noflush_5 (t : Fin cfg0.N) (h : t.val ≠ 15) : (cfg0.win 5).flush t = false := by
  have hn : t.val < 16 := by have := t.isLt; have e : cfg0.N = 16 := N_0; omega
  rw [← Bool.not_eq_true, flush0_5]; omega

theorem body : BodyObligation (dat c X) (defs₀ (F := F)) Variants.none () Set.univ := fun t => by
  rw [bigSep_W0, bigSep_W0]
  sl_whnfR [defs₀, Defs.onTc]
  simp only [before_0, before_1, before_2, before_3, before_4]
  rw [show (dat c X).Φ t.castSucc = Inv c X t.castSucc from rfl, show (dat c X).Φ t.succ = Inv c X t.succ from rfl,
    show (dat c X).owesAt () t.succ = (dat c X).owesAt () t.castSucc from rfl, after_5,
    show (dat c X).after 0 t = qB c X t from rfl, show (dat c X).after 1 t = kB c X t from rfl,
    show (dat c X).after 2 t = qnB c X t from rfl, show (dat c X).after 3 t = knB c X t from rfl,
    show (dat c X).after 4 t = mskB c X t from rfl]
  have hN : t.val < 16 := by have := t.isLt; have e : cfg0.N = 16 := N_0; omega
  unfold Inv
  by_cases h0 : t.val = 0
  · rw [show idle0 5 (grid0.coords t) = true from idle_5 t (by omega), show (win0 5).flush t = false from noflush_5 t (by omega)]
    dsimp only
    iintro ⟨⟨⟨%s, -, Hs⟩, Hr⟩, Ho, ⟨%d0, H0⟩, ⟨%d1, H1⟩, ⟨%d2, H2⟩, ⟨%d3, H3⟩, ⟨%d4, H4⟩, H5⟩
    iapply (run_first c (grid0.coords t) _ _ _ _ _ _ _ _ _ _ _ _ _ _ (qB c X t) (kB c X t) (qnB c X t) (knB c X t) (mskB c X t)
      (by rw [coords_val]; exact h0) Set.univ _)
    isplitl [H0]; · iexact H0
    isplitl [H1]; · iexact H1
    isplitl [H2]; · iexact H2
    isplitl [H3]; · iexact H3
    isplitl [H4]; · iexact H4
    isplitl [Hs]; · iexists s; iexact Hs
    iintro ⟨H0, H1, H2, H3, H4, Hs⟩
    isplitl [Hs Hr]
    · isplitl [Hs]
      · iexists _; isplitr; swap; · iexact Hs
        ipureintro
        intro k hk e
        have ek : k = 0 := by rw [Fin.val_succ] at e; omega
        subst ek
        exact congrArg (ptCounts c X) (Fin.ext h0)
      iexact Hr
    isplitl [Ho]; · iexact Ho
    isplitl [H0]; · iexact H0
    isplitl [H1]; · iexact H1
    isplitl [H2]; · iexact H2
    isplitl [H3]; · iexact H3
    isplitl [H4]; · iexact H4
    iexact H5
  by_cases h15 : t.val = 15
  · rw [show idle0 5 (grid0.coords t) = false from live_5 t h15]
    dsimp only
    iintro ⟨⟨⟨%s, %hs, Hs⟩, Hr⟩, Ho, ⟨%d0, H0⟩, ⟨%d1, H1⟩, ⟨%d2, H2⟩, ⟨%d3, H3⟩, ⟨%d4, H4⟩, ⟨%d5, H5⟩⟩
    have hs' : s = counts c X 14 (Nat.lt_of_succ_lt lt15) := hs 14 _ h15
    subst hs'
    have e15 : addi (counts c X 14 (Nat.lt_of_succ_lt lt15)) (ptCounts c X t) = counts c X 15 lt15 := by
      rw [show t = ⟨15, lt15⟩ from Fin.ext h15]; rfl
    iapply (run_last c (grid0.coords t) _ _ _ _ _ _ _ _ _ _ _ _ _ _ (qB c X t) (kB c X t) (qnB c X t) (knB c X t) (mskB c X t)
      (counts c X 14 (Nat.lt_of_succ_lt lt15)) (by rw [coords_val]; exact h15) Set.univ _)
    rw [show blockCounts (qB c X t) (kB c X t) (qnB c X t) (knB c X t) (mskB c X t) = ptCounts c X t from rfl, e15]
    isplitl [H0]; · iexact H0
    isplitl [H1]; · iexact H1
    isplitl [H2]; · iexact H2
    isplitl [H3]; · iexact H3
    isplitl [H4]; · iexact H4
    isplitl [Hs]; · iexact Hs
    isplitl [H5]; · iexists _; iexact H5
    iintro ⟨H0, H1, H2, H3, H4, Hs, H5⟩
    isplitl [Hs Hr]
    · isplitl [Hs]
      · iexists _; isplitr; swap; · iexact Hs
        ipureintro
        intro k hk e
        have ek : k = 15 := by rw [Fin.val_succ] at e; omega
        subst ek
        rfl
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [show idle0 5 (grid0.coords t) = true from idle_5 t h15, show (win0 5).flush t = false from noflush_5 t h15]
    dsimp only
    iintro ⟨⟨⟨%s, %hs, Hs⟩, Hr⟩, Ho, ⟨%d0, H0⟩, ⟨%d1, H1⟩, ⟨%d2, H2⟩, ⟨%d3, H3⟩, ⟨%d4, H4⟩, H5⟩
    iapply (run_mid c (grid0.coords t) _ _ _ _ _ _ _ _ _ _ _ _ _ _ (qB c X t) (kB c X t) (qnB c X t) (knB c X t) (mskB c X t)
      s (by rw [coords_val]; exact h0) (by rw [coords_val]; exact h15) Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hr]
    · isplitl [Hs]
      · iexists _; isplitr; swap; · iexact Hs
        ipureintro
        intro k hk e
        have ek : t.val = k := by rw [Fin.val_succ] at e; omega
        obtain ⟨k, rfl⟩ := Nat.exists_eq_succ_of_ne_zero (show k ≠ 0 by omega)
        rw [hs k (Nat.lt_of_succ_lt hk) ek]
        exact congrArg (fun u => addi (counts c X k (Nat.lt_of_succ_lt hk)) (ptCounts c X u)) (Fin.ext ek)
      iexact Hr
    isplitl [Ho]; · iexact Ho
    isplitl [H0]; · iexact H0
    isplitl [H1]; · iexact H1
    isplitl [H2]; · iexact H2
    isplitl [H3]; · iexact H3
    isplitl [H4]; · iexact H4
    iexact H5

end Cert.KernelIdeal.Count
-- ==== Proof.KernelIdeal.Tables.lean ====
/- The table of keys the select kernel is launched at: what the count kernel leaves, reshaped; its words are key numbers. -/
module

public import proofs.«01_k».proof.Proof.KernelIdeal.TopCounts
public import proofs.«01_k».proof.Proof.KernelIdeal.CountDat
public import proofs.«01_k».proof.Proof.Gen.KernelIdeal.Regions
public import Idealize.ShloMosaic.Lib.Pipeline.ValueKit.Geometry
public import Idealize.ShloMosaic.Lib.Pipeline.FrameTail

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

open Cert.Rounds (picks)
open Idealize.ShloMosaic.ValueIdx (ix2)

section Points

/-- The entry of the table that grid point `i` reads. -/
abbrev entry (i : grid1.Coords) : S8.Idx := ValueIdx.ix1 (⟨(i 1).val, (i 1).isLt⟩ : Fin 8)

/-- The word read for a grid point is the table's entry at the point's second coordinate. -/
theorem at_entry (pf : pre1.Contents (Elt F)) (i : grid1.Coords) (off : Fin 1 → Nat) (ho : off = ![(i 1).val]) (h : ∀ a, off a + S1.size a ≤ S8.size a)
    (h1 : S1.numel = 1) : pf.at 0 (Rect.unit (s := S8) off S1.size h) h1 = pf 0 (entry i) := by
  subst ho
  refine congrArg (pf 0) ?_
  funext a
  match a with
  | ⟨0, _⟩ => apply Fin.ext; show (![(i 1).val] : Fin 1 → Nat) 0 + 0 * 1 = (i 1).val; simp

theorem off_eq (i : grid1.Coords) : ![(Scalar.indexCast (BitVec.ofNat 32 (i 1).val) : Index).toNat] = ![(i 1).val] := by
  have h : ∀ k : Fin 8, (Scalar.indexCast (BitVec.ofNat 32 k.val) : Index).toNat = k.val := by decide
  rw [h ⟨(i 1).val, (i 1).isLt⟩]

theorem transform_1 (pf : pre1.Contents (Elt F)) (i : grid1.Coords) :
    cc1_transform_1 k1_off1_inb numel1_S1 pf i = ![(show BitVec 32 from pf 0 (entry i)).toNat, 0, 0] := by
  unfold cc1_transform_1
  exact congrArg (fun w : BitVec 32 => ![w.toNat, 0, 0]) (at_entry pf i _ (off_eq i) _ _)

theorem transform_2 (pf : pre1.Contents (Elt F)) (i : grid1.Coords) :
    cc1_transform_2 k1_off1_inb numel1_S1 pf i = ![(show BitVec 32 from pf 0 (entry i)).toNat, 0, 0] := by
  unfold cc1_transform_2
  exact congrArg (fun w : BitVec 32 => ![w.toNat, 0, 0]) (at_entry pf i _ (off_eq i) _ _)

/-- A table of words below the number of keys places every block inside its array. -/
theorem ok_of_lt (pf : pre1.Contents (Elt F)) (h : ∀ y : S8.Idx, (show BitVec 32 from pf 0 y).toNat < 1024) : ok1 pf := by
  constructor <;> intro i
  · refine ⟨fun a => ?_, .inl rfl⟩
    rw [transform_1]
    have := h (entry i)
    match a with
    | ⟨0, _⟩ => show ((show BitVec 32 from pf 0 (entry i)).toNat + 1) * 1 ≤ 1024; omega
    | ⟨1, _⟩ => show (0 + 1) * 1 ≤ 1; omega
    | ⟨2, _⟩ => show (0 + 1) * 768 ≤ 768; omega
  · refine ⟨fun a => ?_, .inl rfl⟩
    rw [transform_2]
    have := h (entry i)
    match a with
    | ⟨0, _⟩ => show ((show BitVec 32 from pf 0 (entry i)).toNat + 1) * 1 ≤ 1024; omega
    | ⟨1, _⟩ => show (0 + 1) * 8 ≤ 8; omega
    | ⟨2, _⟩ => show (0 + 1) * 768 ≤ 768; omega

end Points

/-- The count kernel's result array is the eight keys of the highest counts. -/
theorem result_at (c : Dev nD) (X : (b : Ref sig .tc) → Buf (Elt F) ((c : Thread nD τ).loc b)) :
    (Count.dat c X).arrAt 5 cfg0.N = Count.result c X := by
  refine (Count.dat c X).arrAt_eq_of_covers 5 _ (by decide +kernel) fun t hf y => ?_
  blk_simp
  rw [Count.after_5]
  refine congrArg (Count.result c X) ?_
  funext a
  apply Fin.ext
  match a with
  | ⟨0, _⟩ => blk_simp; rfl
  | ⟨1, _⟩ => blk_simp; rw [show win0_5.index t 1 = 0 from rfl]; omega

variable (m : (ℓ : Loc nD τ sig) → Buf (Elt F) ℓ)

/-- What the count kernel is entered with. -/
abbrev X5 (c : Dev nD) (b : Ref sig .tc) : Buf (Elt F) ((c : Thread nD τ).loc b) := V5 m c (Proc.devRef .tc b)

/-- What the count kernel leaves. -/
def outsA : Outs (F := F) := fun _ r c => Pipeline.afterRegion (Count.dat c (X5 m c)) (V5 m c) (Proc.devRef .tc r)

theorem outsA_v7 (k : ℕ) (c : Dev nD) : outsA m k main_v7 c = Count.result c (X5 m c) :=
  (Pipeline.afterRegion_arr (Count.dat c (X5 m c)) (V5 m c) (by decide) 5).trans (result_at c (X5 m c))

/-- What the select kernel is entered with. -/
abbrev X7 (c : Dev nD) (b : Ref sig .tc) : Buf (Elt F) ((c : Thread nD τ).loc b) := V7 m (outsA m) c (Proc.devRef .tc b)

/-- The table of keys. -/
def tbl : pre1.Contents (Elt F) := fun k => X7 m 0 (pre1.ref k)

/-- The keys, in the order of the table. -/
def keys : IVec S8 32 := shapeCast S8 (picks (Count.counts 0 (X5 m 0) 15 Count.lt15)) shapeCasts_S1x8_S8

theorem X7_v8 (c : Dev nD) : X7 m c main_v8 = shapeCast S8 (Count.result c (X5 m c)) shapeCasts_S1x8_S8 := by
  show StableHlo.after hostOps1 (V6 m (outsA m) c) (Proc.devRef .tc main_v8) = _
  simp only [StableHlo.after_cons, StableHlo.after_nil]
  rw [StableHlo.reshape_result_ne]
  rotate_left; · decide
  rw [StableHlo.reshape_result]
  rw [show V6 m (outsA m) c (Proc.devRef .tc main_v7) = Count.result c (X5 m c) from (Function.update_self ..).trans (outsA_v7 m 6 c)]
  rfl

theorem tbl_0 : tbl m 0 = keys m := (X7_v8 m 0).trans (by unfold keys Count.result; rw [Count.topCounts_eq])

theorem keys_lt (y : S8.Idx) : (keys m y).toNat < 1024 := by
  have hp : ∀ s y', (picks s y').toNat < 1024 := fun s y' => Cert.Rounds.roundIdx_lt _
  have hc : ∀ p : IVec S1x8 32, (∀ y', (p y').toNat < 1024) → (shapeCast S8 p shapeCasts_S1x8_S8 y).toNat < 1024 := fun p h => h _
  exact hc _ (hp _)

/-- The table as the region takes it. -/
def adm1 : (pcfg1 (F := F)).Adm := ⟨tbl m, ok_of_lt _ fun y => by rw [tbl_0]; exact keys_lt m y⟩

end Cert.KernelIdeal
-- ==== Proof.KernelIdeal.SelectBody.lean ====
/- The select kernel's body, one grid point at a time: what it leaves in its two results, as values of the
   blocks it is handed and of what the similarity block held. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.Pipeline.DatRel
public import Idealize.ShloMosaic.Lib.VecWindow
public import Idealize.ShloMosaic.Lib.StableHlo.Run
public import Idealize.ShloMosaic.Lib.Tactic
public import Idealize.ShloMosaic.Lib.Quiescent

@[expose] public section

set_option maxRecDepth 16384

noncomputable section

namespace Cert.KernelIdeal.Sel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-- One grid point: the similarity block gets its column for the point's key, the selection block the key's prompt
    for every query of the block. -/
theorem run (c : Dev nD) (i : grid1.Coords)
    (M2 : Memref sig .tc .smem S8 .i32) (h2 : M2.IsWhole)
    (M3 : Memref sig .tc .vmem S256x768 .f32) (h3 : M3.IsWhole) (M4 : Memref sig .tc .vmem S1x1x768 .f32) (h4 : M4.IsWhole)
    (M5 : Memref sig .tc .vmem S1x8x768 .f32) (h5 : M5.IsWhole) (M6 : Memref sig .tc .vmem S1x256x8 .f32) (h6 : M6.IsWhole)
    (M7 : Memref sig .tc .vmem S256x1x8x768 .f32) (h7 : M7.IsWhole)
    (q : Vec F S256x768 .f32) (k : Vec F S1x1x768 .f32) (pr : Vec F S1x8x768 .f32) (old : Vec F S1x256x8 .f32)
    (E : Set ℕ) (K : PUnit → sProp 𝕄) :
    iprop(owns (c : Thread nD τ) M3 fullShare q ∗ owns (c : Thread nD τ) M4 fullShare k ∗ owns (c : Thread nD τ) M5 fullShare pr ∗ owns (c : Thread nD τ) M6 fullShare old
        ∗ (∃ o, owns (c : Thread nD τ) M7 fullShare o)
        ∗ (iprop(owns (c : Thread nD τ) M3 fullShare q ∗ owns (c : Thread nD τ) M4 fullShare k ∗ owns (c : Thread nD τ) M5 fullShare pr
            ∗ owns (c : Thread nD τ) M6 fullShare (k1_pay1 i q k old) ∗ owns (c : Thread nD τ) M7 fullShare (k1_pay2 pr)) -∗ K ⟨⟩))
      ⊢ wp frame (wpE (defs₀ (F := F)) Variants.none c none) E (cc1__select_kernel i M2 h2 M3 h3 M4 h4 M5 h5 M6 h6 M7 h7) K := by
  unfold owns
  iintro ⟨⟨%f3, %hf3, H3⟩, ⟨%f4, %hf4, H4⟩, ⟨%f5, %hf5, H5⟩, ⟨%f6, %hf6, H6⟩, ⟨%o, %f7, %hf7, H7⟩, Hk⟩
  obtain rfl := h3.eq_unread hf3; obtain rfl := h4.eq_unread hf4
  obtain rfl := h5.eq_unread hf5; obtain rfl := h6.eq_unread hf6; obtain rfl := h7.eq_unread hf7
  sl_unfold [cc1__select_kernel]
  sl_exec_parts!
  sl_step
  iapply Hk
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]
  · iexists _; isplitr; swap; · iexact H6
    ipureintro
    sl_unfold_words
    rw [View.read_writes_full]
    simp only [View.readAt_eq_ld, h3.read_unread, h4.read_unread, h6.read_unread,
      View.ld_unit_zero (S := S256x768) zeros2, View.ld_unit_zero (S := S1x1x768) zeros3, View.ld_unit_zero (S := S1x256x8) zeros3]
  iexists _; isplitr; swap; · iexact H7
  ipureintro
  sl_unfold_words
  rw [View.read_writes_full]
  simp only [View.readAt_eq_ld, h5.read_unread, View.ld_unit_zero (S := S1x8x768) zeros3]

end Cert.KernelIdeal.Sel
-- ==== Proof.KernelIdeal.SelectDat.lean ====
/- The select kernel's region: what each point finds and leaves, from the arrays the region is entered with and
   the table of keys it is launched at. -/
module

public import proofs.«01_k».proof.Proof.KernelIdeal.SelectBody
public import Idealize.ShloMosaic.Lib.Pipeline.TableIdle

@[expose] public section

set_option maxRecDepth 16384

noncomputable section

namespace Cert.KernelIdeal.Sel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

/-- The similarities of one block of queries with one key, one column of them repeated over eight. -/
def colV (q : Vec F S256x768 .f32) (k : Vec F S1x1x768 .f32) : FVec F S1x256x8 .f32 :=
  let k2 : FVec F S1x768 .f32 := shapeCast S1x768 k shapeCasts_S1x1x768_S1x768
  let nq : FVec F S256x1 .f32 := maximumf (sqrt (shapeCast S256x1 (multiReduction .add [1] S256 (mulf q q) 0x00000000#32 reduces_S256x768_S256 (.inl rfl) rfl) shapeCasts_S256_S256x1))
    (broadcast S256x1 (Scalar.ofBits .f32 0x322BCC77#32))
  let nk : F .f32 := Scalar.maximumf (Scalar.sqrt (extractAt ![0, 0, 0] (shapeCast S1x1x1 (multiReduction .add [1, 2] S1
    (shapeCast S1x1x768 (mulf k2 k2) shapeCasts_S1x768_S1x1x768) 0x00000000#32 reduces_S1x1x768_S1 (.inl rfl) rfl) shapeCasts_S1_S1x1x1) inpos_S1x1x1_p0_0_0))
    (Scalar.ofBits .f32 0x322BCC77#32)
  let d : FVec F S256x1 .f32 := matmul dot_S256x768_S1x768_S256x1_1_1_0_0_n_n none q k2 (constant S256x1 .f32 0x00000000#32)
  broadcastTo S1x256x8 (shapeCast S1x256x1 (shapeCast S1x256x1 (divf d (mulf nq (broadcast S256x1 nk))) shapeCasts_S256x1_S1x256x1)
    shapeCasts_S1x256x1_S1x256x1) broadcasts_S1x256x1_S1x256x8

/-- The stored similarity block: the point's column replaced, the others as they were. -/
theorem pay1_apply (i : grid1.Coords) (q : Vec F S256x768 .f32) (k : Vec F S1x1x768 .f32) (old : Vec F S1x256x8 .f32) (y : S1x256x8.Idx) :
    k1_pay1 i q k old y = if (y 2).val = (i 1).val then colV q k y else old y := by
  have e : k1_pay1 i q k old y = Scalar.select (cmpi .eq (iota .tc S1x256x8 32 [2] iota_S1x256x8_d2_w32) (broadcast S1x256x8 (BitVec.ofNat 32 (i 1).val)) y)
      (colV q k y) (shapeCast S1x256x8 old shapeCasts_S1x256x8_S1x256x8 y) := rfl
  rw [e, shapeCast_self]
  have hy : (y 2).val < 8 := (y 2).isLt
  have hi : (i 1).val < 8 := (i 1).isLt
  have hc : cmpi .eq (iota .tc S1x256x8 32 [2] iota_S1x256x8_d2_w32) (broadcast S1x256x8 (BitVec.ofNat 32 (i 1).val)) y
      = if (y 2).val = (i 1).val then 1#1 else 0#1 := by
    show Scalar.cmpi .eq (iota .tc S1x256x8 32 [2] iota_S1x256x8_d2_w32 y) (BitVec.ofNat 32 (i 1).val) = _
    rw [show iota .tc S1x256x8 32 [2] iota_S1x256x8_d2_w32 y = BitVec.ofNat 32 (y 2).val from by unfold iota; simp only [List.foldl_cons, List.foldl_nil, Nat.zero_mul, Nat.zero_add]]
    generalize (y 2).val = a at *; generalize (i 1).val = b at *
    clear e
    have := (by decide : ∀ a b : Fin 8, Scalar.cmpi .eq (BitVec.ofNat 32 a.val) (BitVec.ofNat 32 b.val) = if a.val = b.val then 1#1 else 0#1) ⟨a, hy⟩ ⟨b, hi⟩
    exact this
  rw [hc]
  split <;> rfl

variable (a : (pcfg1 (F := F)).Adm) (c : Dev nD) (X : (b : Ref sig .tc) → Buf (Elt F) ((c : Thread nD τ).loc b))

/-- The blocks a point is handed: the queries, the key of the table's word, its prompts. -/
def qB (t : Fin (cfg1 a).N) : Vec F S256x768 .f32 := (((cfg1 a).win 0).blk t).view.read (Elt F) (X main_arg0)
def kB (t : Fin (cfg1 a).N) : Vec F S1x1x768 .f32 := (((cfg1 a).win 1).blk t).view.read (Elt F) (X main_v9)
def prB (t : Fin (cfg1 a).N) : Vec F S1x8x768 .f32 := (((cfg1 a).win 2).blk t).view.read (Elt F) (X main_arg2)

theorem N_eq : (cfg1 a).N = 128 := N_1

/-- The point of the same block of queries at key `j`. -/
def pt (t : Fin (cfg1 a).N) (j : ℕ) (hj : j < 8) : Fin (cfg1 a).N := ⟨8 * (t.val / 8) + j, by
  have := t.isLt; have e := N_eq a; omega⟩

/-- The whole similarity block of a point's queries: column `j` the similarities with the table's `j`-th key. -/
def simFull (t : Fin (cfg1 a).N) : Vec F S1x256x8 .f32 :=
  fun y => colV (qB a c X (pt a t (y 2).val (y 2).isLt)) (kB a c X (pt a t (y 2).val (y 2).isLt)) y

/-- The region's proof data. -/
def dat : Dat τ (Elt F) Unit ℕ (UR sig nD τ) ℕ (cfg1 a) c where
  A w := X (Pipeline.arrRef spec1 w)
  after w t := match w with
    | ⟨0, _⟩ => qB a c X t
    | ⟨1, _⟩ => kB a c X t
    | ⟨2, _⟩ => prB a c X t
    | ⟨3, _⟩ => simFull a c X t
    | ⟨4, _⟩ => k1_pay2 (prB a c X t)
  Φ _ := iprop(Pipeline.scopedRest (Ix := Unit) (Name := ℕ) (U := UR sig nD τ) (Lvl := ℕ) (Val := Elt F) spec1 c
    ∗ Pipeline.prefHeld pre1 c (fun _ => fullShare) a.1)
  q _ := fullShare
  owed _ := 0

/-- Only the similarity block is described by a relation. -/
def fg : Fin 5 → Bool := fun | ⟨3, _⟩ => true | ⟨0, _⟩ => false | ⟨1, _⟩ => false | ⟨2, _⟩ => false | ⟨4, _⟩ => false

/-- After point `t` the similarity block's columns up to the point's own are right. -/
def Rl : (w : Fin 5) → Fin (cfg1 a).N → (((cfg1 a).win w).block.Idx → Elt F ((cfg1 a).win w).elt) → Prop := fun w t =>
  match w with
  | ⟨3, _⟩ => fun Y => ∀ y : S1x256x8.Idx, (y 2).val ≤ t.val % 8 → (Y : Vec F S1x256x8 .f32) y = simFull a c X t y
  | ⟨0, _⟩ => fun _ => True
  | ⟨1, _⟩ => fun _ => True
  | ⟨2, _⟩ => fun _ => True
  | ⟨4, _⟩ => fun _ => True

theorem before_0 (t : Fin (cfg1 a).N) (d) : (dat a c X).before 0 t d = qB a c X t :=
  (dat a c X).before_in_eq_fetched 0 rfl (fun _ => rfl) (fun _ _ _ => rfl) (fun _ => rfl) t d
theorem before_1 (t : Fin (cfg1 a).N) (d) : (dat a c X).before 1 t d = kB a c X t :=
  (dat a c X).before_in_eq_fetched 1 rfl (fun _ => rfl) (fun _ _ _ => rfl) (fun _ => rfl) t d
theorem before_2 (t : Fin (cfg1 a).N) (d) : (dat a c X).before 2 t d = prB a c X t :=
  (dat a c X).before_in_eq_fetched 2 rfl (fun _ => rfl) (fun _ _ _ => rfl) (fun _ => rfl) t d

theorem coords_1 (t : Fin (cfg1 a).N) : ((grid1.coords t) 1).val = t.val % 8 := by
  have h : ∀ t : Fin grid1.N, ((grid1.coords t) 1).val = t.val % 8 := by decide +kernel
  exact h t
theorem coords_0 (t : Fin (cfg1 a).N) : ((grid1.coords t) 0).val = t.val / 8 := by
  have h : ∀ t : Fin grid1.N, ((grid1.coords t) 0).val = t.val / 8 := by decide +kernel
  exact h t

/-- The similarity block is written back at the last key only. -/
theorem flush_3 (t : Fin (cfg1 a).N) : ((cfg1 a).win 3).flush t = true ↔ t.val % 8 = 7 := by
  have h : ∀ t : Fin grid1.N, (true && (t.val + 1 = grid1.N || decide (∃ h : t.val + 1 < grid1.N, ∃ a,
      cc1_transform_3 (grid1.coords ⟨t.val + 1, h⟩) a ≠ cc1_transform_3 (grid1.coords t) a))) = true ↔ t.val % 8 = 7 := by decide +kernel
  rw [Pipeline.Window.flush_eq_flushF]; exact h t

/-- The selection block is written back at every point. -/
theorem flush_4 (t : Fin (cfg1 a).N) : ((cfg1 a).win 4).flush t = true := by
  have h : ∀ t : Fin grid1.N, (true && (t.val + 1 = grid1.N || decide (∃ h : t.val + 1 < grid1.N, ∃ a,
      cc1_transform_4 (grid1.coords ⟨t.val + 1, h⟩) a ≠ cc1_transform_4 (grid1.coords t) a))) = true := by decide +kernel
  rw [Pipeline.Window.flush_eq_flushF]; exact h t

/-- Points of one block of queries have one similarity block. -/
theorem simFull_congr (t t' : Fin (cfg1 a).N) (h : t.val / 8 = t'.val / 8) : simFull a c X t = simFull a c X t' := by
  funext y
  unfold simFull
  rw [show pt a t (y 2).val (y 2).isLt = pt a t' (y 2).val (y 2).isLt from Fin.ext (by show 8 * (t.val / 8) + _ = 8 * (t'.val / 8) + _; rw [h])]

/-- What a point may find in the similarity block: the columns before its own right. -/
theorem finds_3 (t : Fin (cfg1 a).N) (Y : Vec F S1x256x8 .f32) (h : ((dat a c X).toRRel fg (Rl a c X)).Finds 3 t Y) (y : S1x256x8.Idx)
    (hy : (y 2).val < t.val % 8) : Y y = simFull a c X t y := by
  have h0 : t.val ≠ 0 := by intro e; rw [e] at hy; exact absurd hy (Nat.not_lt_zero _)
  rcases (Pipeline.RDat.finds_of_pos _ (w := 3) (t := t) rfl h0 Y).mp h with hf | hl
  · have := (flush_3 a _).mp hf
    dsimp only at this
    omega
  · have hR : Rl a c X 3 ⟨t.val - 1, Nat.lt_of_le_of_lt (Nat.sub_le _ _) t.isLt⟩ Y := Dat.toRRel_leaves (dat a c X) rfl hl
    have := hR y (by show (y 2).val ≤ (t.val - 1) % 8; omega)
    rw [this]
    exact congrFun (simFull_congr a c X _ t (by show (t.val - 1) / 8 = t.val / 8; omega)) y

theorem handed_0 (t : Fin (cfg1 a).N) (d) : (owns (c : Thread nD τ) (((cfg1 a).win 0).stage ((cfg1 a).slots t 0)) fullShare ((dat a c X).before 0 t d) : sProp 𝕄)
    ⊢ owns (c : Thread nD τ) (((cfg1 a).win 0).stage ((cfg1 a).slots t 0)) fullShare (qB a c X t) := by rw [before_0]
theorem handed_1 (t : Fin (cfg1 a).N) (d) : (owns (c : Thread nD τ) (((cfg1 a).win 1).stage ((cfg1 a).slots t 1)) fullShare ((dat a c X).before 1 t d) : sProp 𝕄)
    ⊢ owns (c : Thread nD τ) (((cfg1 a).win 1).stage ((cfg1 a).slots t 1)) fullShare (kB a c X t) := by rw [before_1]
theorem handed_2 (t : Fin (cfg1 a).N) (d) : (owns (c : Thread nD τ) (((cfg1 a).win 2).stage ((cfg1 a).slots t 2)) fullShare ((dat a c X).before 2 t d) : sProp 𝕄)
    ⊢ owns (c : Thread nD τ) (((cfg1 a).win 2).stage ((cfg1 a).slots t 2)) fullShare (prB a c X t) := by rw [before_2]

theorem body : BodyObligationRel (dat a c X) (defs₀ (F := F)) Variants.none () Set.univ fg (Rl a c X) := fun t => by
  rw [bigSep_W1, bigSep_W1]
  sl_whnfR [defs₀, Defs.onTc]
  rw [show fg 0 = false from rfl, show fg 1 = false from rfl, show fg 2 = false from rfl, show fg 3 = true from rfl, show fg 4 = false from rfl]
  dsimp only
  rw [show (dat a c X).Φ t.succ = (dat a c X).Φ t.castSucc from rfl,
    show (dat a c X).owesAt () t.succ = (dat a c X).owesAt () t.castSucc from rfl,
    show (dat a c X).after 0 t = qB a c X t from rfl, show (dat a c X).after 1 t = kB a c X t from rfl,
    show (dat a c X).after 2 t = prB a c X t from rfl, show (dat a c X).after 4 t = k1_pay2 (prB a c X t) from rfl]
  iintro ⟨HΦ, Ho, ⟨%d0, H0⟩, ⟨%d1, H1⟩, ⟨%d2, H2⟩, ⟨%Y, %hY, H3⟩, ⟨%d4, H4⟩⟩
  iapply (run c (grid1.coords t) _ _ _ _ _ _ _ _ _ _ _ _ (qB a c X t) (kB a c X t) (prB a c X t) Y Set.univ _)
  isplitl [H0]
  · iapply (handed_0 a c X t d0)
    iexact H0
  isplitl [H1]
  · iapply (handed_1 a c X t d1)
    iexact H1
  isplitl [H2]
  · iapply (handed_2 a c X t d2)
    iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists _; isplitr; swap; · iexact H3
    ipureintro
    intro y hy
    rw [pay1_apply, coords_1]
    by_cases e : (y 2).val = t.val % 8
    · rw [if_pos e]
      have ep : pt a t (y 2).val (y 2).isLt = t := Fin.ext (by show 8 * (t.val / 8) + (y 2).val = t.val; omega)
      unfold simFull
      rw [ep]
    · rw [if_neg e]
      exact finds_3 a c X t Y hY y (by omega)
  iexact H4

end Cert.KernelIdeal.Sel
-- ==== Proof.KernelIdeal.Launch.lean ====
/- The program's launch: its host operations and its two kernels in order; every run ends, the arguments as launched, the results read off. -/
module

public import proofs.«01_k».proof.Proof.KernelIdeal.Tables
public import proofs.«01_k».proof.Proof.KernelIdeal.SelectDat
public import proofs.«01_k».proof.Proof.Region

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The tables each kernel is launched at. -/
def adms : (p : Fin 2) → (pcfgs (F := F) p).Adm
  | ⟨0, _⟩ => cfg0.toPCfg_adm
  | ⟨1, _⟩ => adm1 m

/-- What the program's buffers hold after each kernel. -/
def outs : Outs (F := F) := fun k r c =>
  if k = 6 then outsA m k r c else Pipeline.afterRegion (Sel.dat (adm1 m) c (X7 m c)) (V7 m (outsA m) c) (Proc.devRef .tc r)

theorem V6_outs (c : Dev nD) : V6 m (outs m) c = V6 m (outsA m) c := rfl
theorem V7_outs (c : Dev nD) : V7 m (outs m) c = V7 m (outsA m) c := rfl

/-- The kernels' proof data. -/
def pdats : (p : Fin 2) → (c : Dev nD) → Dat τ (Elt F) Unit ℕ (UR sig nD τ) ℕ (Pipeline.pin (pcfgs (F := F)) (adms m) p) c
  | ⟨0, _⟩ => fun c => Count.dat c (X5 m c)
  | ⟨1, _⟩ => fun c => Sel.dat (adm1 m) c (X7 m c)

/-- The windows held to a relation. -/
def marks : (p : Fin 2) → Fin (Pipeline.pin (pcfgs (F := F)) (adms m) p).W → Bool
  | ⟨0, _⟩ => fun _ => false
  | ⟨1, _⟩ => Sel.fg

/-- The relations. -/
def rels : (p : Fin 2) → (c : Dev nD) → (w : Fin (Pipeline.pin (pcfgs (F := F)) (adms m) p).W) → Fin (Pipeline.pin (pcfgs (F := F)) (adms m) p).N
    → (((Pipeline.pin (pcfgs (F := F)) (adms m) p).win w).block.Idx → Elt F ((Pipeline.pin (pcfgs (F := F)) (adms m) p).win w).elt) → Prop
  | ⟨0, _⟩ => fun _ _ _ _ => True
  | ⟨1, _⟩ => fun c => Sel.Rl (adm1 m) c (X7 m c)

/-- The levels: one rank, every counter of a TensorCore at it. -/
def lab (g : GSem nD τ sig) : Finset Unit := if g.1.2 = .tc then {()} else ∅

theorem cut (p : Fin 2) : Pipeline.LevelCut (pcfgs (F := F)) (adms m) () lab (fun _ _ => 0) p (fun _ : Dev nD => (0 : CellTallies nD τ sig Unit)) (fun _ => 0) where
  hι _ _ _ := by unfold lab; rw [if_pos rfl]; exact Finset.mem_singleton_self ()
  hιb _ _ _ := le_refl _
  hD _ _ _ h := absurd h (lt_irrefl 0)

theorem arrs_0 : Pipeline.arrRefs (τ := τ) spec0 ⊆ Pipeline.ucRefs τ sig :=
  Pipeline.arrRefs_sub_ucRefs (τ := τ) spec0 (by decide)
theorem arrs_1 : Pipeline.arrRefs (τ := τ) spec1 ⊆ Pipeline.ucRefs τ sig :=
  Pipeline.arrRefs_sub_ucRefs (τ := τ) spec1 (by decide)
theorem tbls_0 : Pipeline.tblRefs (τ := τ) (Pipeline.Prefetch.none (sig := sig)) ⊆ Pipeline.ucRefs τ sig :=
  Pipeline.tblRefs_sub_ucRefs (τ := τ) _ (by decide)
theorem tbls_1 : Pipeline.tblRefs (τ := τ) pre1 ⊆ Pipeline.ucRefs τ sig :=
  Pipeline.tblRefs_sub_ucRefs (τ := τ) pre1 (by decide)

/-- The select kernel's relation says everything at the point that writes the block back. -/
theorem pins_1 (c : Dev nD) : Cert.RelRegion.Pins (Sel.dat (adm1 m) c (X7 m c)) Sel.fg (Sel.Rl (adm1 m) c (X7 m c)) := by
  intro w hw u hf X hX
  match w, hw, hf, X, hX with
  | ⟨0, _⟩, hw, _, _, _ => exact absurd (show false = true from hw) Bool.false_ne_true
  | ⟨1, _⟩, hw, _, _, _ => exact absurd (show false = true from hw) Bool.false_ne_true
  | ⟨2, _⟩, hw, _, _, _ => exact absurd (show false = true from hw) Bool.false_ne_true
  | ⟨4, _⟩, hw, _, _, _ => exact absurd (show false = true from hw) Bool.false_ne_true
  | ⟨3, _⟩, _, hf, X, hX =>
    have h7 := (Sel.flush_3 (adm1 m) u).mp hf
    funext y
    exact hX y (by rw [h7]; exact Nat.le_of_lt_succ (y 2).isLt)

/-- The count kernel's region. -/
def R0 : Pipeline.RDat.RegionSeg (pcfgs (F := F)) (adms m) (Cert.RelRegion.rdats (pcfgs (F := F)) (adms m) (pdats m) (marks m) (rels m)) () defs₀ Variants.none lab (fun _ _ => 0) 0 :=
  Cert.RelRegion.seg (pcfgs (F := F)) (adms m) (pdats m) (marks m) (rels m) () defs₀ Variants.none lab (fun _ _ => 0) 0 (fun _ => 0)
    (Pipeline.ucRefs τ sig) launch0 arrs_0 tbls_0
    (fun c => (Count.body c (X5 m c)).loose.toR)
    (fun _ _ hw => absurd (show false = true from hw) Bool.false_ne_true)
    (fun _ _ => rfl) (fun _ => rfl) (fun c => (Count.dat c (X5 m c)).share_full fun _ => rfl)
    (fun c => by
      refine BIBase.Entails.trans ?_ (Count.inv_first c (X5 m c))
      iintro ⟨H, -⟩
      iexact H)
    (fun c => by
      refine (Count.inv_last c (X5 m c) _).trans ?_
      iintro H
      isplitl [H]; · iexact H
      unfold Pipeline.prefHeld
      rw [show (Finset.univ : Finset (Fin (pcfgs (F := F) 0).pre.K)) = ∅ from rfl, BI.bigSep_empty]
      iempintro)
    (fun _ => 0) (cut m 0) (V5 m) (fun _ _ => rfl) (fun _ k => k.elim0)

/-- The select kernel's region. -/
def R1 : Pipeline.RDat.RegionSeg (pcfgs (F := F)) (adms m) (Cert.RelRegion.rdats (pcfgs (F := F)) (adms m) (pdats m) (marks m) (rels m)) () defs₀ Variants.none lab (fun _ _ => 0) 1 :=
  Cert.RelRegion.seg (pcfgs (F := F)) (adms m) (pdats m) (marks m) (rels m) () defs₀ Variants.none lab (fun _ _ => 0) 1 (fun _ => 0)
    (Pipeline.ucRefs τ sig) launch1 arrs_1 tbls_1
    (fun c => (Sel.body (adm1 m) c (X7 m c)).toRRel)
    (pins_1 m)
    (fun _ _ => rfl) (fun _ => rfl) (fun c => (Sel.dat (adm1 m) c (X7 m c)).share_full fun _ => rfl)
    (fun _ => .rfl) (fun _ => .rfl)
    (fun _ => 0) (cut m 1) (V7 m (outsA m)) (fun _ _ => rfl) (fun c k => by rw [Subsingleton.elim c 0]; rfl)

/-- What rides along beside the buffers: the core owes nothing. -/
def E (_ : Fin 3) (c : Dev nD) : sProp 𝕄 := iprop(∃ W, owes (c : Thread nD τ) (0 : CellTallies nD τ sig Unit) W)

theorem after_0 (c : Dev nD) (b : DevRef τ sig) (hb : b ∈ Pipeline.ucRefs τ sig) :
    Pipeline.afterRegion (Count.dat c (X5 m c)) (V5 m c) b = V6 m (outs m) c b := by
  obtain ⟨r, -, rfl⟩ := Finset.mem_map.mp (Finset.mem_filter.mp hb).1
  by_cases h : r = main_v7
  · subst h
    exact (Function.update_self (f := V5 m c) _ _).symm
  · refine (Pipeline.afterRegion_keeps (Count.dat c (X5 m c)) (V5 m c) (launch0 (F := F)).win.arr_inj (fun _ => rfl) r ?_).trans (V6_of m (outs m) c r (by simp [h])).symm
    intro w hw
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd hw.symm h

theorem after_1 (c : Dev nD) (b : DevRef τ sig) (hb : b ∈ Pipeline.ucRefs τ sig) :
    Pipeline.afterRegion (Sel.dat (adm1 m) c (X7 m c)) (V7 m (outsA m) c) b = V8 m (outs m) c b := by
  obtain ⟨r, -, rfl⟩ := Finset.mem_map.mp (Finset.mem_filter.mp hb).1
  by_cases h1 : r = main_v10_1
  · subst h1
    exact (Function.update_self (f := Function.update (V7 m (outs m) c) main_v10_0 (outs m 8 main_v10_0 c)) _ _).symm
  by_cases h0 : r = main_v10_0
  · subst h0
    refine Eq.symm ((Function.update_of_ne (StableHlo.devRef_ne_of_ne h1) _ _).trans ?_)
    exact Function.update_self (f := V7 m (outs m) c) _ _
  · refine (Pipeline.afterRegion_keeps (Sel.dat (adm1 m) c (X7 m c)) (V7 m (outsA m) c) (launch1 (F := F)).win.arr_inj (fun _ => rfl) r ?_).trans
      (V8_of m (outs m) c r (by simp [h0, h1])).symm
    intro w hw
    match w, hw with
    | ⟨0, _⟩, _ => rfl
    | ⟨1, _⟩, _ => rfl
    | ⟨2, _⟩, _ => rfl
    | ⟨3, _⟩, hw => exact absurd hw.symm h0
    | ⟨4, _⟩, hw => exact absurd hw.symm h1

theorem pre_0 (c : Dev nD) : iprop(StableHlo.held (c : Thread nD τ) (Pipeline.ucRefs τ sig) (V5 m c) ∗ E 0 c) ⊢ (R0 m).pre c := .rfl
theorem post_0 (c : Dev nD) : (R0 m).post c ⊢ iprop(StableHlo.held (c : Thread nD τ) (Pipeline.ucRefs τ sig) (V6 m (outs m) c) ∗ E 1 c) := by
  rw [StableHlo.held_congr (c : Thread nD τ) (fun b hb => (after_0 m c b hb).symm)]
  exact .rfl
theorem pre_1 (c : Dev nD) : iprop(StableHlo.held (c : Thread nD τ) (Pipeline.ucRefs τ sig) (V7 m (outs m) c) ∗ E 1 c) ⊢ (R1 m).pre c := .rfl
theorem post_1 (c : Dev nD) : (R1 m).post c ⊢ iprop(StableHlo.held (c : Thread nD τ) (Pipeline.ucRefs τ sig) (V8 m (outs m) c) ∗ E 2 c) := by
  rw [StableHlo.held_congr (c : Thread nD τ) (fun b hb => (after_1 m c b hb).symm)]
  exact .rfl

/-- The program's stretches on a core: its host operations and its two kernels, in order. -/
abbrev parts (_ : Dev nD) : List (Pipeline.RDat.Seg (pcfgs (F := F)) (adms m) (Cert.RelRegion.rdats (pcfgs (F := F)) (adms m) (pdats m) (marks m) (rels m)) () defs₀ Variants.none lab (fun _ _ => 0)) :=
  [.host (seg0 m Variants.none lab (fun _ _ => 0) E), .host (seg1 m Variants.none lab (fun _ _ => 0) E), .host (seg2 m Variants.none lab (fun _ _ => 0) E),
   .host (seg3 m Variants.none lab (fun _ _ => 0) E), .host (seg4 m Variants.none lab (fun _ _ => 0) E), .region (R0 m),
   .host (seg6 m (outs m) Variants.none lab (fun _ _ => 0) E), .region (R1 m), .host (seg8 m (outs m) Variants.none lab (fun _ _ => 0) E)]

theorem start : (ownU (initOf (Pipeline.cells (Pipeline.pin (pcfgs (F := F)) (adms m)) (cellOf_inj (adms m))) (Pipeline.launchToks (Pipeline.pin (pcfgs (F := F)) (adms m)) (cellOf_inj (adms m)))) : sProp 𝕄)
    ⊢ |={Set.univ}=> iprop(BI.own ((emb₁ : Emb (URounds (GSem nD τ sig) Unit) 𝕄) (initOf (Pipeline.cells (Pipeline.pin (pcfgs (F := F)) (adms m)) (cellOf_inj (adms m))) (Pipeline.launchToks (Pipeline.pin (pcfgs (F := F)) (adms m)) (cellOf_inj (adms m)))))
      ∗ bigSep Finset.univ (fun _ : Dev nD => (BI.emp : sProp 𝕄))) := by
  iintro Hu; imodintro
  isplitl [Hu]
  · iapply (show (ownU (initOf (Pipeline.cells (Pipeline.pin (pcfgs (F := F)) (adms m)) (cellOf_inj (adms m))) (Pipeline.launchToks (Pipeline.pin (pcfgs (F := F)) (adms m)) (cellOf_inj (adms m)))) : sProp 𝕄)
      ⊢ BI.own ((emb₁ : Emb (URounds (GSem nD τ sig) Unit) 𝕄) (initOf (Pipeline.cells (Pipeline.pin (pcfgs (F := F)) (adms m)) (cellOf_inj (adms m))) (Pipeline.launchToks (Pipeline.pin (pcfgs (F := F)) (adms m)) (cellOf_inj (adms m))))) from .rfl)
    iexact Hu
  iapply (show (BI.emp : sProp 𝕄) ⊢ bigSep Finset.univ (fun _ : Dev nD => (BI.emp : sProp 𝕄)) from by rw [BI.bigSep_emp_const])
  iempintro

/-- What a core's memory holds at the end: the arguments as launched, the two results at the last valuation. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_v11) = V9 m (outs m) c (Proc.devRef .tc main_v11)
  ∧ s.mem ((c.tc : Thread nD τ).loc main_v10_1) = V9 m (outs m) c (Proc.devRef .tc main_v10_1)

theorem mem_uc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

set_option backward.isDefEq.respectTransparency.types false in
/-- Every run ends, with the arguments as launched, the results at the last valuation and every counter at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) (adms m) (Cert.RelRegion.rdats (pcfgs (F := F)) (adms m) (pdats m) (marks m) (rels m))
    () (cellOf_inj (adms m)) (emb₁ : Emb (URounds (GSem nD τ sig) Unit) 𝕄) defs₀ Variants.none lab (fun _ _ => 0) m ρ main (parts m)
    (fun c Q => by
      rewrite [main_chain c, Pipeline.RDat.Seg.run_eq_chain,
        show (parts m c).map Pipeline.RDat.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [parts, Pipeline.RDat.Seg.pipes_host, Pipeline.RDat.Seg.pipes_region, Pipeline.RDat.Seg.pipes_nil]; decide)
    (fun _ => 0) (fun g hg => by unfold lab; rw [if_neg hg]) (fun _ => BI.emp) _ (start m)
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, .rfl, .rfl, .rfl, .rfl, pre_0 m c, post_0 m c, pre_1 m c, post_1 m c, .rfl⟩)
    (hinit := ?_) (QY := Ends m)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (bigSep Finset.univ fun c : Dev nD => iprop(StableHlo.held (c : Thread nD τ) (Pipeline.ucRefs τ sig) (V0 m c) ∗ E 0 c) : sProp 𝕄) := by
      refine bigSep_mono fun c _ => ?_
      rw [← Pipeline.unscopedBufs_held (Ix := Unit) (Name := ℕ) (U := UR sig nD τ) (Lvl := ℕ) c (V0 m c)]
      show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄))
        ⊢ (iprop(unscopedBufs c (fun b => m ((c.tc : Thread nD τ).loc b)) ∗ ∃ W, owes (c : Thread nD τ) (0 : CellTallies nD τ sig Unit) W) : sProp 𝕄)
      iintro ⟨Hb, -, Ho, -⟩
      isplitl [Hb]; · iexact Hb
      iexists ∅; iexact Ho
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨(h (Proc.devRef .tc main_arg0) (mem_uc _ (by decide))).trans (V9_main_arg0 m (outs m) c),
        (h (Proc.devRef .tc main_arg1) (mem_uc _ (by decide))).trans (V9_main_arg1 m (outs m) c),
        (h (Proc.devRef .tc main_arg2) (mem_uc _ (by decide))).trans (V9_main_arg2 m (outs m) c),
        h (Proc.devRef .tc main_v11) (mem_uc _ (by decide)), h (Proc.devRef .tc main_v10_1) (mem_uc _ (by decide))⟩
    · iexact HSI

end Cert.KernelIdeal
-- ==== Proof.Sim.lean ====
/- The similarity of two rows of extended reals: the sum of products over the product of the norms, a norm never below a small positive
   number. A similarity is never below −1: with an infinite entry a norm is infinite and the similarity is 0; among real rows this is the
   inequality of Cauchy and Schwarz. -/
module

public import Idealize.ShloMosaic.PureOps.Ideal.Laws
public import Mathlib.Analysis.MeanInequalities
@[expose] public section

set_option maxRecDepth 16384

noncomputable section

namespace Cert.Sim

open Idealize.ShloMosaic
open scoped BigOperators

/-- The least norm. -/
def eps : Ideal .f32 := Ideal.ofBits .f32 0x322BCC77#32

/-- The root of the sum of squares, not below the least norm. -/
def norm (x : Fin 768 → EReal) : EReal := max (Ideal.sqrt (∑ d, x d * x d)) eps

/-- The sum of products. -/
def dot (x y : Fin 768 → EReal) : EReal := ∑ d, x d * y d

/-- The similarity. -/
def sim (x y : Fin 768 → EReal) : EReal := Ideal.div (dot x y) (norm x * norm y)

theorem eps_real : ∃ e : ℝ, 0 < e ∧ eps = (e : EReal) := by
  refine ⟨11258999 * 2 ^ (-50 : ℤ), by positivity, ?_⟩
  unfold eps
  simp [Ideal.ofBits, Ideal.ieee, -EReal.coe_mul]

theorem eps_pos : 0 < eps := by
  obtain ⟨e, he, h⟩ := eps_real
  rw [h]; exact EReal.coe_pos.mpr he

theorem norm_pos (x : Fin 768 → EReal) : 0 < norm x := lt_of_lt_of_le eps_pos (le_max_right _ _)

theorem mul_self_nonneg (a : EReal) : 0 ≤ a * a := by
  rcases le_total 0 a with h | h
  · exact mul_nonneg h h
  · have h' : 0 ≤ -a := EReal.neg_nonneg.mpr h
    have := mul_nonneg h' h'
    rwa [neg_mul_neg] at this

/-- A row with an infinite entry has an infinite norm. -/
theorem norm_top (x : Fin 768 → EReal) (d : Fin 768) (h : x d = ⊤ ∨ x d = ⊥) : norm x = ⊤ := by
  have hs : ∑ d, x d * x d = ⊤ := by
    refine top_le_iff.mp (le_trans (le_of_eq ?_) (Finset.single_le_sum (fun i _ => mul_self_nonneg (x i)) (Finset.mem_univ d)))
    rcases h with h | h
    · rw [h, EReal.top_mul_top]
    · rw [h, EReal.bot_mul_bot]
  unfold norm
  rw [hs, Ideal.sqrt_top]
  exact max_eq_left le_top

theorem coe_sum (f : Fin 768 → ℝ) : ((∑ d, f d : ℝ) : EReal) = ∑ d, (f d : EReal) := by
  induction (Finset.univ : Finset (Fin 768)) using Finset.cons_induction with
  | empty => simp
  | cons a s ha ih => rw [Finset.sum_cons, Finset.sum_cons, EReal.coe_add, ih]

theorem norm_real (x : Fin 768 → ℝ) (e : ℝ) (he : eps = (e : EReal)) :
    norm (fun d => (x d : EReal)) = ((max (Real.sqrt (∑ d, x d ^ 2)) e : ℝ) : EReal) := by
  have hs : ∑ d, (x d : EReal) * (x d : EReal) = ((∑ d, x d ^ 2 : ℝ) : EReal) := by
    rw [coe_sum]
    exact Finset.sum_congr rfl fun d _ => by rw [pow_two, EReal.coe_mul]
  unfold norm
  rw [hs, he, Ideal.sqrt_coe, if_neg (not_lt.mpr (Finset.sum_nonneg fun d _ => sq_nonneg (x d)))]
  exact (EReal.coe_strictMono.monotone.map_max).symm

theorem real_or (x : Fin 768 → EReal) : (∃ d, x d = ⊤ ∨ x d = ⊥) ∨ ∃ x' : Fin 768 → ℝ, x = fun d => (x' d : EReal) := by
  by_cases h : ∃ d, x d = ⊤ ∨ x d = ⊥
  · exact Or.inl h
  · refine Or.inr ⟨fun d => (x d).toReal, funext fun d => ?_⟩
    have hd : ¬(x d = ⊤ ∨ x d = ⊥) := fun e => h ⟨d, e⟩
    exact (EReal.coe_toReal (fun e => hd (Or.inl e)) (fun e => hd (Or.inr e))).symm

theorem div_top (a : EReal) : Ideal.div a ⊤ = 0 := by
  unfold Ideal.div
  rw [if_neg EReal.top_ne_zero, EReal.inv_top, mul_zero]

/-- A similarity is never below −1. -/
theorem neg_one_le_sim (x y : Fin 768 → EReal) : ((-1 : ℝ) : EReal) ≤ sim x y := by
  have h0 : ((-1 : ℝ) : EReal) ≤ 0 := EReal.coe_nonpos.mpr (by norm_num)
  unfold sim
  rcases real_or x with ⟨d, hd⟩ | ⟨x', rfl⟩
  · rw [norm_top x d hd, EReal.top_mul_of_pos (norm_pos y), div_top]; exact h0
  rcases real_or y with ⟨d, hd⟩ | ⟨y', rfl⟩
  · rw [norm_top y d hd, EReal.mul_top_of_pos (norm_pos _), div_top]; exact h0
  obtain ⟨e, he, hE⟩ := eps_real
  rw [norm_real x' e hE, norm_real y' e hE, ← EReal.coe_mul]
  have ha : 0 < max (Real.sqrt (∑ d, x' d ^ 2)) e := lt_of_lt_of_le he (le_max_right _ _)
  have hb : 0 < max (Real.sqrt (∑ d, y' d ^ 2)) e := lt_of_lt_of_le he (le_max_right _ _)
  rw [Ideal.div_coe (ne_of_gt (mul_pos ha hb)), show dot (fun d => (x' d : EReal)) (fun d => (y' d : EReal)) = ((∑ d, x' d * y' d : ℝ) : EReal) from by
    unfold dot; rw [coe_sum]; exact Finset.sum_congr rfl fun d _ => (EReal.coe_mul _ _).symm, ← EReal.coe_mul]
  refine EReal.coe_le_coe_iff.mpr ?_
  rw [mul_one_div, le_div_iff₀ (mul_pos ha hb)]
  have hc : ∑ d, (-x' d) * y' d ≤ Real.sqrt (∑ d, (-x' d) ^ 2) * Real.sqrt (∑ d, y' d ^ 2) := Real.sum_mul_le_sqrt_mul_sqrt _ _ _
  have hn : ∑ d, (-x' d) * y' d = -∑ d, x' d * y' d := by rw [← Finset.sum_neg_distrib]; exact Finset.sum_congr rfl fun d _ => by ring
  have hq : ∑ d, (-x' d) ^ 2 = ∑ d, x' d ^ 2 := Finset.sum_congr rfl fun d _ => by ring
  rw [hn, hq] at hc
  have hm : Real.sqrt (∑ d, x' d ^ 2) * Real.sqrt (∑ d, y' d ^ 2) ≤ max (Real.sqrt (∑ d, x' d ^ 2)) e * max (Real.sqrt (∑ d, y' d ^ 2)) e :=
    mul_le_mul (le_max_left _ _) (le_max_left _ _) (Real.sqrt_nonneg _) (le_of_lt ha)
  linarith

/-- The value a position already named is masked to lies below every similarity. -/
theorem neg_lt_sim (x y : Fin 768 → EReal) : Ideal.ofBits .f32 0xFF61B1E6#32 < sim x y := by
  refine lt_of_lt_of_le ?_ (neg_one_le_sim x y)
  have e : Ideal.ofBits .f32 0xFF61B1E6#32 = ((-(14791142 * 2 ^ (104 : ℤ)) : ℝ) : EReal) := by
    simp [Ideal.ofBits, Ideal.ieee, -EReal.coe_mul, -EReal.coe_neg]
  rw [e]
  refine EReal.coe_lt_coe_iff.mpr ?_
  norm_num

/-- The sum of products, its first 256 terms and its other 512 apart. -/
theorem dot_split (x y : Fin 768 → EReal) :
    (∑ d : Fin 256, x ⟨d.val, by omega⟩ * y ⟨d.val, by omega⟩) + (∑ d : Fin 512, x ⟨256 + d.val, by omega⟩ * y ⟨256 + d.val, by omega⟩) = dot x y :=
  (Fin.sum_univ_add (a := 256) (b := 512) (fun d : Fin (256 + 512) => x d * y d)).symm

end Cert.Sim
-- ==== Proof.HostNorm.lean ====
/- Rows of an array of vectors, and their norms as host operations compute them, over the extended reals. -/
module

public import proofs.«01_k».proof.Proof.Sim
public import Idealize.ShloMosaic.Lib.IdealHost
public import Idealize.ShloMosaic.Lib.ValueIdxCore
public import Idealize.ShloMosaic.Lib.Pipeline.Value
@[expose] public section

set_option maxRecDepth 16384

noncomputable section

namespace Cert.Sim

open Idealize.ShloMosaic Idealize.ShloMosaic.ValueIdx
open scoped BigOperators

/-- Row `i` of an array of vectors. -/
def vec {n : ℕ} (x : (⟨2, ![n, 768]⟩ : Shape).Idx → EReal) (i : Fin n) : Fin 768 → EReal := fun d => x (ix2 i d)

/-- The host's column of norms, read at a row. -/
theorem host_norm {n : ℕ} (x : FVec Ideal (⟨2, ![n, 768]⟩ : Shape) .f32) (hr : (⟨2, ![n, 768]⟩ : Shape).ReducesTo [1] ⟨1, ![n]⟩)
    (hR : (⟨2, ![n, 768]⟩ : Shape).Reduces [1] ⟨1, ![n]⟩) (hu : 0 < (⟨0, ![]⟩ : Shape).numel)
    (hb : (⟨1, ![n]⟩ : Shape).BroadcastsInDim ⟨2, ![n, 1]⟩ ![0]) (hs : (⟨0, ![]⟩ : Shape).BroadcastsInDim ⟨2, ![n, 1]⟩ ![]) (i : Fin n) :
    maximumf (Host.sqrt (broadcastInDim (⟨2, ![n, 1]⟩ : Shape) ![0] hb
        (Host.reduceAdd (mulf x x) (constant (F := Ideal) (⟨0, ![]⟩ : Shape) .f32 0x00000000#32) hr hu)))
      (broadcastInDim (⟨2, ![n, 1]⟩ : Shape) ![] hs (constant (F := Ideal) (⟨0, ![]⟩ : Shape) .f32 0x322BCC77#32)) (ix2 i (0 : Fin 1))
      = norm (vec x i) := by
  have hi : i.val = if n = 1 then 0 else i.val := by
    have := i.isLt
    split <;> omega
  rw [maximumf_apply, broadcastInDim_scalar_apply]
  unfold Sim.norm
  refine congrArg (fun z => max (Ideal.sqrt z) eps) ?_
  refine (broadcastInDim_apply _ hb _ (ix2 i (0 : Fin 1)) (ix1 i) fun a => ?_).trans ?_
  · match a with | ⟨0, _⟩ => exact hi
  rw [hostReduceAdd_apply, Ideal.hostReduceAdd_single hr hR]
  show Ideal.ofBits .f32 0x00000000#32 + _ = _
  rw [Ideal.ofBits_zero_f32, zero_add]
  have h : ∀ d : Fin 768, mulf x x (hR.lift (ix1 i) d) = vec x i d * vec x i d := fun d => by
    rw [show hR.lift (ix1 i) d = ix2 i d from by funext a; match a with | ⟨0, _⟩ => rfl | ⟨1, _⟩ => rfl, mulf_apply]; rfl
  exact Finset.sum_congr rfl fun d _ => h d

end Cert.Sim
end
-- ==== Proof.KernelIdeal.Hosts.lean ====
/- What the first kernel is launched at: the norms the host computed, and the arguments. -/
module

public import proofs.«01_k».proof.Proof.HostNorm
public import proofs.«01_k».proof.Proof.KernelIdeal.Tables
@[expose] public section

set_option maxRecDepth 16384

noncomputable section

namespace Cert.KernelIdeal

open Idealize.ShloMosaic Idealize.ShloMosaic.TcCoe Idealize.ShloMosaic.Tactic Idealize.ShloMosaic.StableHlo
open Idealize.ShloMosaic.ValueIdx (ix2)
open Cert.KernelIdeal.Gen Cert.Sim

variable (m : (ℓ : Loc nD τ sig) → Buf (Elt Ideal) ℓ) (c : Dev nD)

/-- The queries, the keys and the prompts. -/
abbrev Q : FVec Ideal S4096x768 .f32 := m ((c.tc : Thread nD τ).loc main_arg0)
abbrev K : FVec Ideal S1024x768 .f32 := m ((c.tc : Thread nD τ).loc main_arg1)
abbrev P : FVec Ideal S1024x8x768 .f32 := m ((c.tc : Thread nD τ).loc main_arg2)

theorem V5_arg0 : V5 m c main_arg0 = Q m c := by
  rw [V5_of m c main_arg0 (by decide), V4_of m c main_arg0 (by decide), V3_of m c main_arg0 (by decide), V2_of m c main_arg0 (by decide), V1_of m c main_arg0 (by decide)]
theorem V5_arg1 : V5 m c main_arg1 = K m c := by
  rw [V5_of m c main_arg1 (by decide), V4_of m c main_arg1 (by decide), V3_of m c main_arg1 (by decide), V2_of m c main_arg1 (by decide), V1_of m c main_arg1 (by decide)]

theorem V2_v0 : V2 m c main_v0 = Host.sqrt (broadcastInDim S4096x1 ![0] bcast_S4096_S4096x1_0 (Host.reduceAdd (mulf (Q m c) (Q m c)) (constant (F := Ideal) S_ .f32 0x00000000#32) reducesTo_S4096x768_S4096_d1 h_S_)) := by
  show StableHlo.after hostOps0_1 (V1 m c) (Proc.devRef .tc main_v0) = _
  simp only [hostOps0_1, TRef.binary, TRef.nullary, TRef.reshape, TRef.ternary, TRef.unary, TRef.toBuf, TRef.ofBuf, cast_eq]
  after_results_simp

theorem V5_v2 (i : Fin 4096) : (show FVec Ideal S4096x1 .f32 from V5 m c main_v2) (ix2 i (0 : Fin 1)) = norm (vec (Q m c) i) := by
  have e : V3 m c main_v2 = maximumf (F := Ideal) (V2 m c main_v0 : FVec Ideal S4096x1 .f32) (broadcastInDim S4096x1 ![] bcast_S_S4096x1 (constant (F := Ideal) S_ .f32 0x322BCC77#32)) := by
    show StableHlo.after hostOps0_2 (V2 m c) (Proc.devRef .tc main_v2) = _
    simp only [hostOps0_2]
    after_results_simp
  rw [V5_of m c main_v2 (by decide), V4_of m c main_v2 (by decide), e, V2_v0]
  exact host_norm (Q m c) _ (by decide) _ _ _ i

theorem V4_v3 : V4 m c main_v3 = Host.sqrt (broadcastInDim S1024x1 ![0] bcast_S1024_S1024x1_0 (Host.reduceAdd (mulf (K m c) (K m c)) (constant (F := Ideal) S_ .f32 0x00000000#32) reducesTo_S1024x768_S1024_d1 h_S_)) := by
  show StableHlo.after hostOps0_3 (V3 m c) (Proc.devRef .tc main_v3) = _
  simp only [hostOps0_3, TRef.binary, TRef.nullary, TRef.reshape, TRef.ternary, TRef.unary, TRef.toBuf, TRef.ofBuf, cast_eq]
  after_results_simp

theorem V5_v6 (j : Fin 1024) : (show FVec Ideal S1x1024 .f32 from V5 m c main_v6) (ix2 (0 : Fin 1) j) = norm (vec (K m c) j) := by
  have e : V5 m c main_v6 = transpose S1x1024 [1, 0] (maximumf (F := Ideal) (V4 m c main_v3 : FVec Ideal S1024x1 .f32) (broadcastInDim S1024x1 ![] bcast_S_S1024x1 (constant (F := Ideal) S_ .f32 0x322BCC77#32))) transposes_S1024x1_S1x1024_1_0 := by
    show StableHlo.after hostOps0_4 (V4 m c) (Proc.devRef .tc main_v6) = _
    simp only [hostOps0_4]
    after_results_simp
  rw [e, V4_v3]
  refine (transpose_apply _ _ _ _ (ix2 j (0 : Fin 1)) fun b => ?_).trans ?_
  · match b with | ⟨0, _⟩ => rfl | ⟨1, _⟩ => rfl
  · exact host_norm (K m c) _ (by decide) _ _ _ j

end Cert.KernelIdeal
end
-- ==== Proof.MatchRounds.lean ====
/- Rounds of selection on a block of 256 rows of 1024 values: a round names in every row the least position of the greatest value and
   masks it; the ones at the positions named are summed down the columns. Over eight rounds, from values above the masking value, the
   positions named in a row are the first eight of its stable sort, greater first. -/
module

public import proofs.«01_k».proof.Proof.Pick
public import Idealize.ShloMosaic.PureOps.Reduce
public import Idealize.ShloMosaic.PureOps.Ideal.Laws
public import Idealize.ShloMosaic.Lib.ValueIdxCore
public import Idealize.ShloMosaic.Lib.ValueIdx
public import Idealize.ShloMosaic.Lib.ValueLayout
public import Idealize.ShloMosaic.Lib.Pipeline.Value
public import Idealize.ShloMosaic.Lib.WordSum
@[expose] public section

set_option maxRecDepth 16384

noncomputable section

namespace Cert.MatchRounds

open Idealize.ShloMosaic Idealize.ShloMosaic.ValueIdx Cert.Pick
open scoped BigOperators

abbrev T : Shape := ⟨2, ![256, 1024]⟩
abbrev Tr : Shape := ⟨1, ![256]⟩
abbrev Tr1 : Shape := ⟨2, ![256, 1]⟩
abbrev Tc : Shape := ⟨1, ![1024]⟩
abbrev T1c : Shape := ⟨2, ![1, 1024]⟩

theorem redRow : T.Reduces [1] Tr := by decide
theorem redCol : T.Reduces [0] Tc := by decide
theorem castRow : Tr.ShapeCasts Tr1 := by decide
theorem castCol : Tc.ShapeCasts T1c := by decide
theorem spread : Tr1.Broadcasts T := by decide
theorem iotaT : T.Iotas .tc 32 [1] := by decide

/-- The lane numbers. -/
def lanes : IVec T 32 := iota .tc T 32 [1] iotaT

/-- Every row's greatest value, over the row. -/
@[irreducible] def rowMax (v : FVec Ideal T .f32) : FVec Ideal T .f32 :=
  broadcastTo T (shapeCast Tr1 (multiReduction .maximumf [1] Tr v 0xFF800000#32 redRow (.inl rfl) rfl) castRow) spread

/-- The lane numbers where the row's greatest value is, 1024 elsewhere. -/
@[irreducible] def cand (v : FVec Ideal T .f32) : IVec T 32 := select (cmpf .oge v (rowMax v)) lanes (broadcast T 1024#32)

/-- The position named in every row, over the row. -/
def rowPick (v : FVec Ideal T .f32) : IVec T 32 :=
  broadcastTo T (shapeCast Tr1 (multiReductionI .minsi [1] Tr (cand v) 2147483647#32 redRow rfl)
    castRow) spread

/-- One at the positions named. -/
def sel (v : FVec Ideal T .f32) : IVec T 1 := cmpi .eq lanes (rowPick v)

/-- The ones of a round, as the round's operations in turn. -/
theorem sel_eq (v : FVec Ideal T .f32) (l : IVec T 32) (hl : l = lanes) :
    sel v = cmpi .eq l (broadcastTo T (shapeCast Tr1 (multiReductionI .minsi [1] Tr (select (cmpf .oge v
      (broadcastTo T (shapeCast Tr1 (multiReduction .maximumf [1] Tr v 0xFF800000#32 redRow (.inl rfl) rfl) castRow) spread)) l
      (broadcast T 1024#32)) 2147483647#32 redRow rfl) castRow) spread) := by
  subst hl
  unfold sel rowPick cand rowMax
  rfl

/-- The value a position named is masked to. -/
def neg : Ideal .f32 := Scalar.ofBits .f32 0xFF61B1E6#32

/-- The block after the round. -/
def next (v : FVec Ideal T .f32) : FVec Ideal T .f32 := select (sel v) (broadcast T neg) v

/-- How many rows named each position. -/
def cnt (v : FVec Ideal T .f32) : IVec T1c 32 :=
  shapeCast T1c (multiReductionI .add [0] Tc (extui 32 (sel v) (by decide)) 0#32 redCol rfl) castCol

/-- The block after `r` rounds. -/
def blockAt (v : FVec Ideal T .f32) : ℕ → FVec Ideal T .f32
  | 0 => v
  | r + 1 => next (blockAt v r)

/-- Row `i` of a block. -/
def row (v : FVec Ideal T .f32) (i : Fin 256) (j : Fin 1024) : EReal := v (ix2 i j)

theorem lanes_apply (i : Fin 256) (j : Fin 1024) : lanes (ix2 i j) = BitVec.ofNat 32 j.val := by
  unfold lanes iota; simp only [List.foldl_cons, List.foldl_nil, Nat.zero_mul, Nat.zero_add]

theorem lift_row (i : Fin 256) (j : Fin 1024) : redRow.lift (ix1 i) j = ix2 i j := by
  funext a; match a with | ⟨0, _⟩ => rfl | ⟨1, _⟩ => rfl

theorem lift_col (j : Fin 1024) (i : Fin 256) : redCol.lift (ix1 j) i = ix2 i j := by
  funext a; match a with | ⟨0, _⟩ => rfl | ⟨1, _⟩ => rfl

/-- A per-row array cast to a column and spread over the row reads the row's entry. -/
theorem spread_apply {α : Type} (x : Tr.Idx → α) (i : Fin 256) (j : Fin 1024) :
    broadcastTo T (shapeCast Tr1 x castRow) spread (ix2 i j) = x (ix1 i) := by
  rw [broadcastTo_apply _ _ _ (ix2 i (0 : Fin 1)) (by
    intro a
    match a with
    | ⟨0, _⟩ => rfl
    | ⟨1, _⟩ => rfl)]
  refine shapeCast_apply _ _ _ (ix1 i) ?_
  rw [Shape.rowMajor_val_one, Shape.rowMajor_val_two]; simp

/-- A fold of `max` from the least value is above every entry, and is the least value or an entry. -/
theorem fold_max_spec {ι : Type} [DecidableEq ι] (g : ι → EReal) (s : Finset ι) :
    (∀ i ∈ s, g i ≤ s.fold max ⊥ g) ∧ (s.fold max ⊥ g = ⊥ ∨ ∃ i ∈ s, s.fold max ⊥ g = g i) := by
  refine Finset.induction_on s ⟨fun i hi => absurd hi (Finset.notMem_empty i), Or.inl (by rw [Finset.fold_empty])⟩ ?_
  intro a s ha ih
  rw [Finset.fold_insert ha]
  refine ⟨fun i hi => ?_, ?_⟩
  · rcases Finset.mem_insert.mp hi with rfl | hi
    · exact le_max_left _ _
    · exact le_trans (ih.1 i hi) (le_max_right _ _)
  · rcases le_total (g a) (s.fold max ⊥ g) with h | h
    · rw [max_eq_right h]
      rcases ih.2 with h' | ⟨i, hi, h'⟩
      · exact Or.inl h'
      · exact Or.inr ⟨i, Finset.mem_insert_of_mem hi, h'⟩
    · rw [max_eq_left h]; exact Or.inr ⟨a, Finset.mem_insert_self a s, rfl⟩

theorem ofBits_neg_inf : Ideal.ofBits .f32 0xFF800000#32 = ⊥ := by simp [Ideal.ofBits, Ideal.ieee]

/-- A row's greatest value is above the row's entries and is one of them. -/
theorem rowMax_spec (v : FVec Ideal T .f32) (i : Fin 256) :
    ∃ m : EReal, (∀ j, rowMax v (ix2 i j) = m) ∧ (∀ j, row v i j ≤ m) ∧ ∃ j, m = row v i j := by
  refine ⟨(Finset.univ : Finset (Fin 1024)).fold max ⊥ (row v i), fun j => ?_, ?_⟩
  · unfold rowMax
    rw [spread_apply]
    refine (Ideal.multiReduction_maximumf_single v _ redRow _ _ (ix1 i)).trans ?_
    rw [Ideal.ofBits_def, ofBits_neg_inf]
    refine Finset.fold_congr fun k _ => ?_
    exact congrArg v (lift_row i k)
  · obtain ⟨h1, h2⟩ := fold_max_spec (row v i) Finset.univ
    refine ⟨fun j => h1 j (Finset.mem_univ j), ?_⟩
    rcases h2 with h | ⟨j, -, h⟩
    · refine ⟨0, ?_⟩
      have := h1 0 (Finset.mem_univ _)
      rw [h] at this ⊢
      exact (le_bot_iff.mp this).symm
    · exact ⟨j, h⟩

theorem select_oge {α : Type} (x y : EReal) (a b : α) : Scalar.select (Ideal.cmp .oge x y) a b = if y ≤ x then a else b := by
  unfold Scalar.select Ideal.cmp
  by_cases h : y ≤ x
  · rw [if_pos h, decide_eq_true h]; rfl
  · rw [if_neg h, decide_eq_false h]; rfl

theorem cand_apply (v : FVec Ideal T .f32) (i : Fin 256) (k : Fin 1024) :
    cand v (ix2 i k) = if rowMax v (ix2 i k) ≤ row v i k then BitVec.ofNat 32 k.val else 1024#32 := by
  unfold cand
  rw [select_apply, cmpf_apply, broadcast_apply, lanes_apply]
  exact select_oge _ _ _ _

/-- A round names in a row the least position of its greatest value. -/
theorem rowPick_spec (v : FVec Ideal T .f32) (i : Fin 256) :
    ∃ j : Fin 1024, (∀ k, rowPick v (ix2 i k) = BitVec.ofNat 32 j.val) ∧ IsTop (row v i) j := by
  obtain ⟨m, hm, hle, j₀, hj₀⟩ := rowMax_spec v i
  have h : ∀ k : Fin 1024, cand v (redRow.lift (ix1 i) k) = if m ≤ row v i k then BitVec.ofNat 32 k.val else 1024#32 := fun k =>
    (congrArg (cand v) (lift_row i k)).trans ((cand_apply v i k).trans (by rw [hm]))
  obtain ⟨j, hj, hP, hmin⟩ := least_pos (Finset.univ : Finset (Fin (T.size 1))) (fun j => j) (fun j => ⟨j, Finset.mem_univ _, rfl⟩)
    (fun j => m ≤ row v i j) ⟨j₀, le_of_eq hj₀⟩
    (cand v ∘ redRow.lift (ix1 i))
    (fun k _ => h k)
  refine ⟨j, fun k => ?_, ?_, ?_⟩
  · unfold rowPick
    rw [spread_apply]
    refine (multiReductionI_eq_fold .minsi _ _ redRow rfl (ix1 i)).trans ?_
    exact (redRow.fold_filter_drop_single IntOp.minsi 2147483647#32 (cand v) (ix1 i)).trans hj
  · exact fun k => le_trans (hle k) hP
  · exact fun k hk => hmin k (by rw [hk]; exact hP)

theorem ofNat_inj {a b : Fin 1024} (h : BitVec.ofNat 32 a.val = BitVec.ofNat 32 b.val) : a = b := by
  have ha := a.isLt
  have hb := b.isLt
  refine Fin.ext ?_
  have := congrArg BitVec.toNat h
  rw [BitVec.toNat_ofNat, BitVec.toNat_ofNat, Nat.mod_eq_of_lt (by omega), Nat.mod_eq_of_lt (by omega)] at this
  exact this

/-- What a round does to a row, from the position it names. -/
theorem round_spec (v : FVec Ideal T .f32) (i : Fin 256) : ∃ j : Fin 1024, IsTop (row v i) j ∧
    (∀ k, sel v (ix2 i k) = if j = k then 1#1 else 0#1) ∧ row (next v) i = Function.update (row v i) j neg := by
  obtain ⟨j, hj, ht⟩ := rowPick_spec v i
  have hs : ∀ k, sel v (ix2 i k) = if j = k then 1#1 else 0#1 := fun k => by
    show IntOp.cmpi .eq (lanes (ix2 i k)) (rowPick v (ix2 i k)) = _
    rw [hj, lanes_apply]
    unfold IntOp.cmpi
    by_cases h : j = k
    · subst h; rw [if_pos rfl]; simp
    · rw [if_neg h, show (BitVec.ofNat 32 k.val == BitVec.ofNat 32 j.val) = false from beq_eq_false_iff_ne.mpr fun e => h (ofNat_inj e).symm]
      rfl
  refine ⟨j, ht, hs, ?_⟩
  funext k
  unfold row next
  rw [select_apply, hs, broadcast_apply]
  by_cases h : j = k
  · subst h; rw [if_pos rfl, Function.update_self]; rfl
  · rw [if_neg h, Function.update_of_ne (fun e => h e.symm)]; rfl

/-- The counts of a round are, at each position, the sum over the rows of one where the position is named. -/
theorem cnt_apply (v : FVec Ideal T .f32) (σ : Fin 256 → Fin 1024) (hσ : ∀ i k, sel v (ix2 i k) = if σ i = k then 1#1 else 0#1) (k : Fin 1024) :
    cnt v (ix2 0 k) = ∑ i : Fin 256, if σ i = k then 1#32 else 0#32 := by
  unfold cnt
  rw [shapeCast_a_1a_apply]
  refine (congrFun (multiReductionI_eq_reduceFold .add _ _ redCol rfl) (ix1 k)).trans ?_
  show reduceFold redCol (· + ·) (0#32 : BitVec 32) _ _ = _
  rw [reduceFold_add_eq_sum, show (0#32 : BitVec 32) = 0 from rfl, zero_add, redCol.sum_filter_drop_single]
  have h : ∀ i : Fin 256, (sel v (redCol.lift (ix1 k) i)).setWidth 32 = if σ i = k then 1#32 else 0#32 := fun i => by
    rw [lift_col, hσ]
    split <;> rfl
  exact Finset.sum_congr rfl fun i _ => h i

/-- The `r`-th position of a row's stable sort, greater first. -/
def topPos (w : Fin 1024 → EReal) (r : Fin 8) : Fin 1024 := sortedFrom (gtB w) (r.castLE (by decide : 8 ≤ 1024))

/-- From values above the masking value: round `r` counts the `r`-th positions of the rows' stable sorts. -/
theorem cnt_round (v : FVec Ideal T .f32) (hv : ∀ i j, neg < row v i j) (r : Fin 8) (k : Fin 1024) :
    cnt (blockAt v r.val) (ix2 0 k) = ∑ i : Fin 256, if topPos (row v i) r = k then 1#32 else 0#32 := by
  choose σ hσ using fun (r : ℕ) (i : Fin 256) => round_spec (blockAt v r) i
  rw [cnt_apply _ (σ r.val) fun i k => (hσ r.val i).2.1 k]
  refine Finset.sum_congr rfl fun i _ => ?_
  have e := rounds_sorted (by decide : 8 ≤ 1024) neg (row v i) (hv i) (fun r : Fin 8 => σ r.val i) (fun r => row (blockAt v r) i) rfl
    (fun r => (hσ r.val i).2.2) (fun r => (hσ r.val i).1) r
  unfold topPos
  rw [e]

/-- The eight rounds' counts together. -/
def allCounts (v : FVec Ideal T .f32) : IVec T1c 32 :=
  addi (addi (addi (addi (addi (addi (addi (addi (broadcast T1c 0#32) (cnt (blockAt v 0))) (cnt (blockAt v 1))) (cnt (blockAt v 2)))
    (cnt (blockAt v 3))) (cnt (blockAt v 4))) (cnt (blockAt v 5))) (cnt (blockAt v 6))) (cnt (blockAt v 7))

/-- From values above the masking value: the counts, at each position, sum one over the rows and rounds that name it. -/
theorem allCounts_apply (v : FVec Ideal T .f32) (hv : ∀ i j, neg < row v i j) (k : Fin 1024) :
    allCounts v (ix2 0 k) = ∑ r : Fin 8, ∑ i : Fin 256, if topPos (row v i) r = k then 1#32 else 0#32 := by
  have e : allCounts v (ix2 0 k) = 0 + cnt (blockAt v 0) (ix2 0 k) + cnt (blockAt v 1) (ix2 0 k) + cnt (blockAt v 2) (ix2 0 k)
      + cnt (blockAt v 3) (ix2 0 k) + cnt (blockAt v 4) (ix2 0 k) + cnt (blockAt v 5) (ix2 0 k) + cnt (blockAt v 6) (ix2 0 k)
      + cnt (blockAt v 7) (ix2 0 k) := rfl
  rw [e, zero_add, Fin.sum_univ_eight]
  have h := fun r => cnt_round v hv r k
  exact congr (congrArg _ (congr (congrArg _ (congr (congrArg _ (congr (congrArg _ (congr (congrArg _ (congr (congrArg _ (congr (congrArg _ (h 0)) (h 1))) (h 2)))
    (h 3))) (h 4))) (h 5))) (h 6))) (h 7)

end Cert.MatchRounds
-- ==== Proof.KernelIdeal.BlockCounts.lean ====
/- The counts a step of the first kernel adds, at the ideal values: eight rounds of selection on the block of similarities. -/
module

public import proofs.«01_k».proof.Proof.KernelIdeal.CountBody
public import proofs.«01_k».proof.Proof.MatchRounds
@[expose] public section

set_option maxRecDepth 16384

noncomputable section

namespace Cert.KernelIdeal.Count

open Idealize.ShloMosaic Cert.MatchRounds
open Cert.KernelIdeal.Gen

theorem iota_lanes : iota .tc S256x1024 32 [1] iota_S256x1024_d1_w32 = lanes := rfl

/-- A round's ones and the positions it names, by the kernel's own operations. -/
theorem sel_of (v : FVec Ideal S256x1024 .f32) : cmpi .eq lanes (broadcastTo S256x1024 (shapeCast S256x1 (multiReductionI .minsi [1] S256
    (select (cmpf .oge v (broadcastTo S256x1024 (shapeCast S256x1 (multiReduction .maximumf [1] S256 v 0xFF800000#32 reduces_S256x1024_S256 (.inl rfl) rfl)
      shapeCasts_S256_S256x1) broadcasts_S256x1_S256x1024)) lanes (broadcast S256x1024 1024#32)) 2147483647#32 reduces_S256x1024_S256 rfl)
    shapeCasts_S256_S256x1) broadcasts_S256x1_S256x1024) = sel v := (sel_eq v lanes rfl).symm

theorem next_of (v : FVec Ideal S256x1024 .f32) :
    select (sel v) (broadcast S256x1024 (Scalar.ofBits (F := Ideal) .f32 0xFF61B1E6#32)) v = next v := rfl

theorem cnt_of (v : FVec Ideal S256x1024 .f32) : shapeCast S1x1024 (multiReductionI .add [0] S1024 (extui 32 (sel v) natLt_1_32) 0#32
    reduces_S256x1024_S1024 rfl) shapeCasts_S1024_S1x1024 = cnt v := rfl

theorem pay18_eq (q : Vec Ideal S256x768 .f32) (k : Vec Ideal S1024x768 .f32) (msk : Vec Ideal S256x1 .i32) (qn : Vec Ideal S256x1 .f32)
    (kn : Vec Ideal S1x1024 .f32) : k0_pay18 q k msk qn kn = sel (k0_pay17 q k msk qn kn) := by
  unfold k0_pay18; dsimp only; rw [iota_lanes, sel_of]

theorem pay19_eq (q : Vec Ideal S256x768 .f32) (k : Vec Ideal S1024x768 .f32) (msk : Vec Ideal S256x1 .i32) (qn : Vec Ideal S256x1 .f32)
    (kn : Vec Ideal S1x1024 .f32) : k0_pay19 q k msk qn kn = addi (broadcast S1x1024 0#32) (cnt (k0_pay17 q k msk qn kn)) := by
  unfold k0_pay19; dsimp only; rw [pay18_eq, cnt_of]

theorem pay20_eq (v : FVec Ideal S256x1024 .f32) : k0_pay20 v (sel v) = next v := by unfold k0_pay20; dsimp only; rw [next_of]
theorem pay21_eq (v : FVec Ideal S256x1024 .f32) : k0_pay21 v lanes (sel v) = sel (next v) := by
  unfold k0_pay21; dsimp only; rw [pay20_eq, sel_of]
theorem pay22_eq (v : FVec Ideal S256x1024 .f32) : k0_pay22 v lanes (sel v) = next (next v) := by
  unfold k0_pay22; dsimp only; rw [pay21_eq, pay20_eq, next_of]
theorem pay23_eq (v : FVec Ideal S256x1024 .f32) : k0_pay23 v lanes (sel v) = sel (next (next v)) := by
  unfold k0_pay23; dsimp only; rw [pay22_eq, sel_of]
theorem pay24_eq (v : FVec Ideal S256x1024 .f32) (a : IVec S1x1024 32) :
    k0_pay24 v lanes (sel v) a = addi (addi a (cnt (next v))) (cnt (next (next v))) := by
  unfold k0_pay24; dsimp only; rw [pay21_eq, pay23_eq, cnt_of, cnt_of]
theorem pay25_eq (v : FVec Ideal S256x1024 .f32) : k0_pay25 v lanes (sel v) = next (next (next v)) := by
  unfold k0_pay25; dsimp only; rw [pay23_eq, pay22_eq, next_of]
theorem pay26_eq (v : FVec Ideal S256x1024 .f32) : k0_pay26 v lanes (sel v) = sel (next (next (next v))) := by
  unfold k0_pay26; dsimp only; rw [pay25_eq, sel_of]
theorem pay27_eq (v : FVec Ideal S256x1024 .f32) : k0_pay27 v lanes (sel v) = extui 32 (sel (next (next (next v)))) natLt_1_32 := by
  unfold k0_pay27; dsimp only; rw [pay26_eq]
theorem pay28_eq (v : FVec Ideal S256x1024 .f32) : k0_pay28 v (sel v) = next v := by unfold k0_pay28; dsimp only; rw [next_of]
theorem pay29_eq (v : FVec Ideal S256x1024 .f32) : k0_pay29 lanes v (sel v) = sel (next v) := by
  unfold k0_pay29; dsimp only; rw [pay28_eq, sel_of]
theorem pay30_eq (v : FVec Ideal S256x1024 .f32) : k0_pay30 lanes v (sel v) = next (next v) := by
  unfold k0_pay30; dsimp only; rw [pay29_eq, pay28_eq, next_of]
theorem pay31_eq (v : FVec Ideal S256x1024 .f32) : k0_pay31 lanes v (sel v) = sel (next (next v)) := by
  unfold k0_pay31; dsimp only; rw [pay30_eq, sel_of]
theorem pay32_eq (v : FVec Ideal S256x1024 .f32) (a : IVec S1x1024 32) : k0_pay32 lanes a v (sel v) (extui 32 (sel v) natLt_1_32)
    = addi (addi (addi a (cnt v)) (cnt (next v))) (cnt (next (next v))) := by
  unfold k0_pay32; dsimp only; rw [pay29_eq, pay31_eq, cnt_of, cnt_of, cnt_of]
theorem pay33_eq (v : FVec Ideal S256x1024 .f32) : k0_pay33 lanes v (sel v) = next (next (next v)) := by
  unfold k0_pay33; dsimp only; rw [pay31_eq, pay30_eq, next_of]
theorem pay34_eq (v : FVec Ideal S256x1024 .f32) : cmpi .eq lanes (k0_pay34 lanes v (sel v)) = sel (next (next (next v))) := by
  unfold k0_pay34; dsimp only; rw [pay33_eq, sel_of]
theorem pay1_eq (v : FVec Ideal S256x1024 .f32) (a : IVec S1x1024 32) (p : IVec S256x1024 32) (hp : cmpi .eq lanes p = sel v) :
    k0_pay1 lanes a v p = addi (addi a (cnt v)) (cnt (next v)) := by
  unfold k0_pay1; dsimp only; rw [hp, next_of, sel_of, cnt_of, cnt_of]

/-- The counts of a step are the eight rounds' counts on its block of similarities. -/
theorem blockCounts_eq (q : Vec Ideal S256x768 .f32) (k : Vec Ideal S1024x768 .f32) (qn : Vec Ideal S256x1 .f32) (kn : Vec Ideal S1x1024 .f32)
    (msk : Vec Ideal S256x1 .i32) : blockCounts q k qn kn msk = allCounts (k0_pay17 q k msk qn kn) := by
  unfold blockCounts
  dsimp only
  rw [iota_lanes, pay18_eq, pay19_eq]
  generalize k0_pay17 q k msk qn kn = v
  rw [pay24_eq, pay25_eq, pay26_eq, pay27_eq, pay32_eq, pay33_eq, pay1_eq _ _ _ (pay34_eq _)]
  rfl

end Cert.KernelIdeal.Count
-- ==== Proof.KernelIdeal.Match.lean ====
/- The similarities the two kernels compute, read at one query and one key, over the extended reals. -/
module

public import proofs.«01_k».proof.Proof.KernelIdeal.SelectDat
public import proofs.«01_k».proof.Proof.KernelIdeal.BlockCounts
public import proofs.«01_k».proof.Proof.HostNorm
public import Idealize.ShloMosaic.Lib.MatmulPlain
@[expose] public section

set_option maxRecDepth 16384

noncomputable section

namespace Cert.KernelIdeal.Match

open Idealize.ShloMosaic Idealize.ShloMosaic.ValueIdx Cert.Sim
open Cert.KernelIdeal.Gen
open scoped BigOperators

/-- A product of two blocks by rows, from zero, is at (r, c) the sum of products of row r and row c. -/
theorem matmul_rows {M K N : ℕ} (d : DotDims ⟨2, ![M, K]⟩ ⟨2, ![N, K]⟩ ⟨2, ![M, N]⟩) (hd : d = DotDims.transposedRhs M K N)
    (x : FVec Ideal ⟨2, ![M, K]⟩ .f32) (y : FVec Ideal ⟨2, ![N, K]⟩ .f32) (r : Fin M) (c : Fin N) :
    matmul d none x y (constant ⟨2, ![M, N]⟩ .f32 0x00000000#32) (ix2 r c) = ∑ k : Fin K, x (ix2 r k) * y (ix2 c k) := by
  subst hd
  refine (Ideal.matmul_transposedRhs_apply none x y _ r c).trans ?_
  show Ideal.ofBits .f32 0x00000000#32 + _ = _
  rw [Ideal.ofBits_zero_f32, zero_add]

/-- The product in two parts, columns 0 to 255 and 256 to 767, adds to the whole sum of products. -/
theorem parts_apply (q : FVec Ideal S256x768 .f32) (k : FVec Ideal S1024x768 .f32) (i : Fin 256) (j : Fin 1024) :
    addf (matmul dot_S256x256_S1024x256_S256x1024_1_1_0_0_n_n none (extractStridedSlice S256x256 ![0, 0] q slices_S256x768_o0_0_S256x256)
        (extractStridedSlice S1024x256 ![0, 0] k slices_S1024x768_o0_0_S1024x256) (constant S256x1024 .f32 0x00000000#32))
      (matmul dot_S256x512_S1024x512_S256x1024_1_1_0_0_n_n none (extractStridedSlice S256x512 ![0, 256] q slices_S256x768_o0_256_S256x512)
        (extractStridedSlice S1024x512 ![0, 256] k slices_S1024x768_o0_256_S1024x512) (constant S256x1024 .f32 0x00000000#32)) (ix2 i j)
      = dot (vec q i) (vec k j) := by
  rw [addf_apply, matmul_rows dot_S256x256_S1024x256_S256x1024_1_1_0_0_n_n rfl, matmul_rows dot_S256x512_S1024x512_S256x1024_1_1_0_0_n_n rfl, ← dot_split]
  refine congrArg₂ (· + ·) (Finset.sum_congr rfl fun d _ => congrArg₂ (· * ·) ?_ ?_) (Finset.sum_congr rfl fun d _ => congrArg₂ (· * ·) ?_ ?_)
  · exact extractStridedSlice_apply _ _ _ _ _ (fun a => match a with | ⟨0, _⟩ => (Nat.zero_add _).symm | ⟨1, _⟩ => (Nat.zero_add _).symm)
  · exact extractStridedSlice_apply _ _ _ _ _ (fun a => match a with | ⟨0, _⟩ => (Nat.zero_add _).symm | ⟨1, _⟩ => (Nat.zero_add _).symm)
  · exact extractStridedSlice_apply _ _ _ _ _ (fun a => match a with | ⟨0, _⟩ => (Nat.zero_add _).symm | ⟨1, _⟩ => rfl)
  · exact extractStridedSlice_apply _ _ _ _ _ (fun a => match a with | ⟨0, _⟩ => (Nat.zero_add _).symm | ⟨1, _⟩ => rfl)

/-- The block of similarities of the first kernel: whichever of the two products the mask chooses, entry (i, j) is the sum
    of products of query i and key j over the product of the two norms. -/
theorem pay17_apply (q : Vec Ideal S256x768 .f32) (k : Vec Ideal S1024x768 .f32) (msk : Vec Ideal S256x1 .i32) (qn : Vec Ideal S256x1 .f32)
    (kn : Vec Ideal S1x1024 .f32) (i : Fin 256) (j : Fin 1024) :
    k0_pay17 q k msk qn kn (ix2 i j) = Ideal.div (dot (vec q i) (vec k j)) (qn (ix2 i (0 : Fin 1)) * kn (ix2 (0 : Fin 1) j)) := by
  unfold k0_pay17
  rw [divf_apply, mulf_apply, select_apply, parts_apply, matmul_rows dot_S256x768_S1024x768_S256x1024_1_1_0_0_n_n rfl, shapeCast_self, shapeCast_self, shapeCast_self]
  rw [broadcastTo_apply qn broadcasts_S256x1_S256x1024 (ix2 i j) (ix2 i (0 : Fin 1)) (fun a => match a with | ⟨0, _⟩ => rfl | ⟨1, _⟩ => rfl)]
  rw [broadcastTo_apply _ broadcasts_S1x1024_S256x1024 (ix2 i j) (ix2 (0 : Fin 1) j) (fun a => match a with | ⟨0, _⟩ => rfl | ⟨1, _⟩ => rfl)]
  refine congrArg (fun z => Ideal.div z (qn (ix2 i (0 : Fin 1)) * kn (ix2 (0 : Fin 1) j))) ?_
  unfold Scalar.select
  exact ite_self _

theorem lift_row (i : Fin 256) (d : Fin 768) : reduces_S256x768_S256.lift (ValueIdx.ix1 i) d = ix2 i d := by
  funext a; match a with | ⟨0, _⟩ => rfl | ⟨1, _⟩ => rfl

/-- The norms of a block of queries, as the second kernel computes them. -/
theorem nq_apply (q : FVec Ideal S256x768 .f32) (i : Fin 256) :
    maximumf (sqrt (shapeCast S256x1 (multiReduction .add [1] S256 (mulf q q) 0x00000000#32 reduces_S256x768_S256 (.inl rfl) rfl) shapeCasts_S256_S256x1))
      (broadcast S256x1 (Scalar.ofBits (F := Ideal) .f32 0x322BCC77#32)) (ix2 i (0 : Fin 1)) = Sim.norm (vec q i) := by
  rw [maximumf_apply]
  unfold Sim.norm
  refine congrArg (fun z => max (Ideal.sqrt z) eps) ?_
  rw [shapeCast_apply _ _ _ (ValueIdx.ix1 i) (by rw [Shape.rowMajor_val_one, Shape.rowMajor_val_two]; show i.val = i.val * 1 + 0; omega)]
  refine (Ideal.multiReduction_add_single _ _ _ _ _ _).trans ?_
  have h : ∀ d : Fin 768, mulf q q (reduces_S256x768_S256.lift (ValueIdx.ix1 i) d) = vec q i d * vec q i d := fun d => by
    rw [lift_row, mulf_apply]; rfl
  exact Finset.sum_congr rfl fun d _ => h d

/-- The norm of a key, as the second kernel computes it. -/
theorem nk_apply (k2 : FVec Ideal S1x768 .f32) :
    Scalar.maximumf (Scalar.sqrt (extractAt ![0, 0, 0] (shapeCast S1x1x1 (multiReduction .add [1, 2] S1
      (shapeCast S1x1x768 (mulf k2 k2) shapeCasts_S1x768_S1x1x768) 0x00000000#32 reduces_S1x1x768_S1 (.inl rfl) rfl) shapeCasts_S1_S1x1x1) inpos_S1x1x1_p0_0_0))
      (Scalar.ofBits (F := Ideal) .f32 0x322BCC77#32) = Sim.norm (vec k2 (0 : Fin 1)) := by
  unfold Sim.norm
  refine congrArg (fun z => max (Ideal.sqrt z) eps) ?_
  unfold extractAt
  rw [shapeCast_apply _ _ _ (ValueIdx.ix1 (0 : Fin 1)) (by rw [Shape.rowMajor_val_one, Shape.rowMajor_val_three]; rfl)]
  refine (Ideal.multiReduction_add_total _ _ reduces_S1x1x768_S1 (fun b => match b with | ⟨0, _⟩ => rfl) _ _ _).trans ?_
  unfold shapeCast
  refine (Equiv.sum_comp (Shape.reshapeEquiv _) (mulf k2 k2)).trans ?_
  rw [sum_idx2]
  rw [Fin.sum_univ_one]
  exact Finset.sum_congr rfl fun d _ => by rw [mulf_apply]; rfl

/-- A column of the second kernel's block of similarities: query i against the one key of the point. -/
theorem colV_apply (q : FVec Ideal S256x768 .f32) (k : FVec Ideal S1x1x768 .f32) (i : Fin 256) (c : Fin 8) :
    Sel.colV (F := Ideal) q k (ix3 (0 : Fin 1) i c) = sim (vec q i) (fun d => k (ix3 (0 : Fin 1) (0 : Fin 1) d)) := by
  unfold Sel.colV; dsimp only
  rw [broadcastTo_apply _ _ _ (ix3 (0 : Fin 1) i (0 : Fin 1)) (fun a => match a with | ⟨0, _⟩ => rfl | ⟨1, _⟩ => rfl | ⟨2, _⟩ => rfl)]
  rw [shapeCast_self, shapeCast_apply _ _ _ (ix2 i (0 : Fin 1)) (by rw [Shape.rowMajor_val_two, Shape.rowMajor_val_three]; show i.val * 1 + 0 = (0 * 256 + i.val) * 1 + 0; omega)]
  rw [divf_apply, mulf_apply, nq_apply, nk_apply, matmul_rows dot_S256x768_S1x768_S256x1_1_1_0_0_n_n rfl]
  have hk : vec (shapeCast S1x768 k shapeCasts_S1x1x768_S1x768) (0 : Fin 1) = fun d => k (ix3 (0 : Fin 1) (0 : Fin 1) d) := by
    funext d
    unfold vec
    exact shapeCast_apply _ _ _ _ (by rw [Shape.rowMajor_val_two, Shape.rowMajor_val_three]; show (0 * 1 + 0) * 768 + d.val = 0 * 768 + d.val; omega)
  rw [← hk]
  rfl

end Cert.KernelIdeal.Match
end
-- ==== Proof.KernelIdeal.CountsTotal.lean ====
/- The counts after the last step of the first kernel: over all queries and the eight ranks, how often each key is chosen. -/
module

public import proofs.«01_k».proof.Proof.KernelIdeal.Hosts
public import proofs.«01_k».proof.Proof.KernelIdeal.Match
@[expose] public section

set_option maxRecDepth 16384

noncomputable section

namespace Cert.KernelIdeal

open Idealize.ShloMosaic Idealize.ShloMosaic.TcCoe Idealize.ShloMosaic.Tactic Idealize.ShloMosaic.StableHlo
open Idealize.ShloMosaic.ValueIdx (ix2)
open Cert.KernelIdeal.Gen Cert.Sim Cert.MatchRounds

variable (m : (ℓ : Loc nD τ sig) → Buf (Elt Ideal) ℓ) (c : Dev nD)

theorem N0 : cfg0.N = 16 := N_0

/-- Query `i` of block `t`. -/
def qrow (t : Fin cfg0.N) (i : Fin 256) : Fin 4096 := ⟨256 * t.val + i.val, by have := t.isLt; have := N0; omega⟩

theorem idx0_0 (t : Fin cfg0.N) : win0_0.index t 0 = t.val := by
  have h : ∀ t : Fin grid0.N, win0_0.index t 0 = t.val := by decide +kernel
  exact h t
theorem idx0_2 (t : Fin cfg0.N) : win0_2.index t 0 = t.val := by
  have h : ∀ t : Fin grid0.N, win0_2.index t 0 = t.val := by decide +kernel
  exact h t

theorem qB_apply (t : Fin cfg0.N) (i : Fin 256) (d : Fin 768) : Count.qB c (X5 m c) t (ix2 i d) = Q m c (ix2 (qrow t i) d) := by
  rw [← V5_arg0]
  unfold Count.qB
  refine congrArg (X5 m c main_arg0) ?_
  funext a
  apply Fin.ext
  match a with
  | ⟨0, _⟩ => blk_simp; rw [idx0_0]; show t.val * 256 + i.val = 256 * t.val + i.val; omega
  | ⟨1, _⟩ => blk_simp; show 0 * 768 + d.val = d.val; omega

theorem kB_apply (t : Fin cfg0.N) (j : Fin 1024) (d : Fin 768) : Count.kB c (X5 m c) t (ix2 j d) = K m c (ix2 j d) := by
  rw [← V5_arg1]
  unfold Count.kB
  refine congrArg (X5 m c main_arg1) ?_
  funext a
  apply Fin.ext
  match a with
  | ⟨0, _⟩ => blk_simp; show 0 * 1024 + j.val = j.val; omega
  | ⟨1, _⟩ => blk_simp; show 0 * 768 + d.val = d.val; omega

theorem qnB_apply (t : Fin cfg0.N) (i : Fin 256) : Count.qnB c (X5 m c) t (ix2 i (0 : Fin 1)) = norm (vec (Q m c) (qrow t i)) := by
  rw [← V5_v2]
  unfold Count.qnB
  refine congrArg (X5 m c main_v2) ?_
  funext a
  apply Fin.ext
  match a with
  | ⟨0, _⟩ => blk_simp; rw [idx0_2]; show t.val * 256 + i.val = 256 * t.val + i.val; omega
  | ⟨1, _⟩ => blk_simp; rfl

theorem knB_apply (t : Fin cfg0.N) (j : Fin 1024) : Count.knB c (X5 m c) t (ix2 (0 : Fin 1) j) = norm (vec (K m c) j) := by
  rw [← V5_v6]
  unfold Count.knB
  refine congrArg (X5 m c main_v6) ?_
  funext a
  apply Fin.ext
  match a with
  | ⟨0, _⟩ => blk_simp; rfl
  | ⟨1, _⟩ => blk_simp; show 0 * 1024 + j.val = j.val; omega

/-- Query `n`'s similarities with every key. -/
def sims (n : Fin 4096) (k : Fin 1024) : EReal := sim (vec (Q m c) n) (vec (K m c) k)

/-- The similarities of a step's block. -/
theorem block_apply (t : Fin cfg0.N) (i : Fin 256) (j : Fin 1024) :
    k0_pay17 (Count.qB c (X5 m c) t) (Count.kB c (X5 m c) t) (Count.mskB c (X5 m c) t) (Count.qnB c (X5 m c) t) (Count.knB c (X5 m c) t) (ix2 i j)
      = sims m c (qrow t i) j := by
  rw [Match.pay17_apply, qnB_apply, knB_apply]
  have hq : vec (Count.qB c (X5 m c) t) i = vec (Q m c) (qrow t i) := funext fun d => qB_apply m c t i d
  have hk : vec (Count.kB c (X5 m c) t) j = vec (K m c) j := funext fun d => kB_apply m c t j d
  rw [hq, hk]
  rfl

/-- What a step adds: how often each key is chosen by the step's queries. -/
def stepCount (t : Fin cfg0.N) (k : Fin 1024) : BitVec 32 :=
  ∑ r : Fin 8, ∑ i : Fin 256, if topPos (sims m c (qrow t i)) r = k then 1#32 else 0#32

theorem ptCounts_apply (t : Fin cfg0.N) (k : Fin 1024) : Count.ptCounts c (X5 m c) t (ix2 (0 : Fin 1) k) = stepCount m c t k := by
  unfold Count.ptCounts
  rw [Count.blockCounts_eq]
  have hrow : ∀ i, row (k0_pay17 (Count.qB c (X5 m c) t) (Count.kB c (X5 m c) t) (Count.mskB c (X5 m c) t) (Count.qnB c (X5 m c) t) (Count.knB c (X5 m c) t)) i
      = sims m c (qrow t i) := fun i => funext fun j => block_apply m c t i j
  rw [allCounts_apply _ fun i j => by rw [hrow]; exact neg_lt_sim _ _]
  unfold stepCount
  exact Finset.sum_congr rfl fun r _ => Finset.sum_congr rfl fun i _ => by rw [hrow]

theorem counts_apply (n : ℕ) (h : n < cfg0.N) (k : Fin 1024) :
    Count.counts c (X5 m c) n h (ix2 (0 : Fin 1) k) = ∑ t : Fin (n + 1), stepCount m c ⟨t.val, by omega⟩ k := by
  induction n with
  | zero => rw [Fin.sum_univ_one]; exact ptCounts_apply m c _ k
  | succ n ih =>
    rw [Fin.sum_univ_castSucc]
    refine congrArg₂ (fun a b : BitVec 32 => a + b) ?_ (ptCounts_apply m c _ k)
    exact ih _

/-- The counts after the last step. -/
theorem counts_total (k : Fin 1024) : Count.counts c (X5 m c) 15 Count.lt15 (ix2 (0 : Fin 1) k)
    = ∑ t : Fin 16, ∑ r : Fin 8, ∑ i : Fin 256, if topPos (sims m c (qrow (t.cast N0.symm) i)) r = k then 1#32 else 0#32 :=
  counts_apply m c 15 Count.lt15 k

end Cert.KernelIdeal
end
-- ==== Proof.KernelIdeal.SelectArr.lean ====
/- The arrays the second kernel leaves, from what it is launched at: any arguments, and any table of keys. -/
module

public import proofs.«01_k».proof.Proof.KernelIdeal.Match
public import proofs.«01_k».proof.Proof.KernelIdeal.Tables
public import Idealize.ShloMosaic.Lib.Pipeline.Covers
@[expose] public section

set_option maxRecDepth 16384

noncomputable section

namespace Cert.KernelIdeal.Arr

open Idealize.ShloMosaic Idealize.ShloMosaic.TcCoe Idealize.ShloMosaic.Tactic
open Idealize.ShloMosaic.ValueIdx (ix2 ix3 ix4)
open Cert.KernelIdeal.Gen Cert.Sim

variable (a : (pcfg1 (F := Ideal)).Adm) (c : Dev nD) (X : (b : Ref sig .tc) → Buf (Elt Ideal) ((c : Thread nD τ).loc b))

theorem N1 : (cfg1 a).N = 128 := N_1

/-- The query of block row `i` at point `t`. -/
def qrow (t : Fin (cfg1 a).N) (i : Fin 256) : Fin 4096 := ⟨256 * (t.val / 8) + i.val, by have := t.isLt; have := N1 a; omega⟩

/-- The rank a point works at. -/
def rank (t : Fin (cfg1 a).N) : Fin 8 := ⟨t.val % 8, Nat.mod_lt _ (by decide)⟩

theorem map_0 : ∀ t : Fin grid1.N, cc1_transform_0 (grid1.coords t) = ![t.val / 8, 0] := by decide +kernel
theorem map_3 : ∀ t : Fin grid1.N, cc1_transform_3 (grid1.coords t) = ![t.val / 8, 0, 0] := by decide +kernel
theorem map_4 : ∀ t : Fin grid1.N, cc1_transform_4 (grid1.coords t) = ![t.val / 8, t.val % 8, 0, 0] := by decide +kernel

theorem index_0 (t : Fin (cfg1 a).N) : ((cfg1 a).win 0).index t = ![t.val / 8, 0] := map_0 t
theorem index_3 (t : Fin (cfg1 a).N) : ((cfg1 a).win 3).index t = ![t.val / 8, 0, 0] := map_3 t
theorem index_4 (t : Fin (cfg1 a).N) : ((cfg1 a).win 4).index t = ![t.val / 8, t.val % 8, 0, 0] := map_4 t

theorem entry_eq (t : Fin (cfg1 a).N) : entry (grid1.coords t) = ValueIdx.ix1 (rank a t) :=
  congrArg ValueIdx.ix1 (Fin.ext (Sel.coords_1 a t))

variable (κ : Fin 8 → Fin 1024) (hκ : ∀ r, (show BitVec 32 from a.1 0 (ValueIdx.ix1 r)).toNat = (κ r).val)

include hκ in
theorem index_1 (t : Fin (cfg1 a).N) : ((cfg1 a).win 1).index t = ![(κ (rank a t)).val, 0, 0] :=
  (transform_1 a.1 (grid1.coords t)).trans (by rw [entry_eq a t, hκ])

include hκ in
theorem index_2 (t : Fin (cfg1 a).N) : ((cfg1 a).win 2).index t = ![(κ (rank a t)).val, 0, 0] :=
  (transform_2 a.1 (grid1.coords t)).trans (by rw [entry_eq a t, hκ])

theorem qB_apply (t : Fin (cfg1 a).N) (i : Fin 256) (d : Fin 768) :
    Sel.qB a c X t (ix2 i d) = (show FVec Ideal S4096x768 .f32 from X main_arg0) (ix2 (qrow a t i) d) := by
  unfold Sel.qB
  refine congrArg (X main_arg0) ?_
  funext b
  apply Fin.ext
  match b with
  | ⟨0, _⟩ => blk_simp; rw [index_0]; show t.val / 8 * 256 + i.val = 256 * (t.val / 8) + i.val; omega
  | ⟨1, _⟩ => blk_simp; rw [index_0]; show 0 * 768 + d.val = d.val; omega

include hκ in
theorem kB_apply (t : Fin (cfg1 a).N) (d : Fin 768) :
    Sel.kB a c X t (ix3 (0 : Fin 1) (0 : Fin 1) d) = (show FVec Ideal S1024x1x768 .f32 from X main_v9) (ix3 (κ (rank a t)) (0 : Fin 1) d) := by
  unfold Sel.kB
  refine congrArg (X main_v9) ?_
  funext b
  apply Fin.ext
  match b with
  | ⟨0, _⟩ => blk_simp; rw [index_1 a κ hκ]; rfl
  | ⟨1, _⟩ => blk_simp; rw [index_1 a κ hκ]; rfl
  | ⟨2, _⟩ => blk_simp; rw [index_1 a κ hκ]; show 0 * 768 + d.val = d.val; omega

include hκ in
theorem prB_apply (t : Fin (cfg1 a).N) (l : Fin 8) (d : Fin 768) :
    Sel.prB a c X t (ix3 (0 : Fin 1) l d) = (show FVec Ideal S1024x8x768 .f32 from X main_arg2) (ix3 (κ (rank a t)) l d) := by
  unfold Sel.prB
  refine congrArg (X main_arg2) ?_
  funext b
  apply Fin.ext
  match b with
  | ⟨0, _⟩ => blk_simp; rw [index_2 a κ hκ]; rfl
  | ⟨1, _⟩ => blk_simp; rw [index_2 a κ hκ]; show 0 * 8 + l.val = l.val; omega
  | ⟨2, _⟩ => blk_simp; rw [index_2 a κ hκ]; show 0 * 768 + d.val = d.val; omega

/-- The similarity of query `n` with the key of rank `r`. -/
def simAt (n : Fin 4096) (r : Fin 8) : EReal :=
  sim (vec (show FVec Ideal S4096x768 .f32 from X main_arg0) n)
    (fun d => (show FVec Ideal S1024x1x768 .f32 from X main_v9) (ix3 (κ r) (0 : Fin 1) d))

theorem rank_pt (t : Fin (cfg1 a).N) (r : Fin 8) (h : r.val < 8) : rank a (Sel.pt a t r.val h) = r := Fin.ext (by
  show (8 * (t.val / 8) + r.val) % 8 = r.val
  omega)

theorem qrow_pt (t : Fin (cfg1 a).N) (r : Fin 8) (h : r.val < 8) (i : Fin 256) : qrow a (Sel.pt a t r.val h) i = qrow a t i := Fin.ext (by
  show 256 * ((8 * (t.val / 8) + r.val) / 8) + i.val = 256 * (t.val / 8) + i.val
  omega)

include hκ in
/-- A point's similarity block: row `i`, column `r` is the similarity of the point's query `i` with the key of rank `r`. -/
theorem simFull_apply (t : Fin (cfg1 a).N) (i : Fin 256) (r : Fin 8) :
    Sel.simFull a c X t (ix3 (0 : Fin 1) i r) = simAt c X κ (qrow a t i) r := by
  have e : Sel.simFull a c X t (ix3 (0 : Fin 1) i r)
      = Sel.colV (F := Ideal) (Sel.qB a c X (Sel.pt a t r.val r.isLt)) (Sel.kB a c X (Sel.pt a t r.val r.isLt)) (ix3 (0 : Fin 1) i r) := rfl
  rw [e, Match.colV_apply]
  unfold simAt
  refine congrArg₂ sim (funext fun d => ?_) (funext fun d => ?_)
  · exact (qB_apply a c X _ i d).trans (by rw [qrow_pt]; rfl)
  · exact (kB_apply a c X κ hκ _ d).trans (by rw [rank_pt])

/-- The similarities in sixteen blocks. -/
def simBlocks : FVec Ideal S16x256x8 .f32 := fun y => simAt c X κ ⟨256 * (y 0).val + (y 1).val, by
  have h0 : (y 0).val < 16 := (y 0).isLt
  have h1 : (y 1).val < 256 := (y 1).isLt
  omega⟩ (y 2)

/-- The chosen prompts, for each query. -/
def chosen : FVec Ideal S4096x8x8x768 .f32 := fun y => (show FVec Ideal S1024x8x768 .f32 from X main_arg2) (ix3 (κ (y 1)) (y 2) (y 3))

theorem covers_3 : ((cfg1 (F := Ideal) a).win 3).Covers := by
  refine Pipeline.Window.covers_of_index_surj _ rfl (fun b => match b with | ⟨0, _⟩ => Nat.one_pos | ⟨1, _⟩ => (by decide : 0 < 256) | ⟨2, _⟩ => (by decide : 0 < 8)) ?_
  intro β
  have hb : (β (0 : Fin 3)).val < 16 := lt_of_lt_of_eq (β (0 : Fin 3)).isLt (show ((cfg1 (F := Ideal) a).win 3).nblk (0 : Fin 3) = 16 from (show (16 + 1 - 1) / 1 = 16 by decide))
  refine ⟨⟨8 * (β (0 : Fin 3)).val, by rw [show (cfg1 a).grid.N = 128 from N1 a]; omega⟩, fun b => ?_⟩
  have hi := index_3 a ⟨8 * (β (0 : Fin 3)).val, by rw [show (cfg1 a).N = 128 from N1 a]; omega⟩
  match b with
  | ⟨0, _⟩ => exact (congrFun hi (0 : Fin 3)).trans (by show 8 * (β (0 : Fin 3)).val / 8 = (β (0 : Fin 3)).val; omega)
  | ⟨1, _⟩ => exact (congrFun hi (1 : Fin 3)).trans (Nat.lt_one_iff.mp (lt_of_lt_of_eq (β (1 : Fin 3)).isLt (show ((cfg1 (F := Ideal) a).win 3).nblk (1 : Fin 3) = 1 from (show (256 + 256 - 1) / 256 = 1 by decide)))).symm
  | ⟨2, _⟩ => exact (congrFun hi (2 : Fin 3)).trans (Nat.lt_one_iff.mp (lt_of_lt_of_eq (β (2 : Fin 3)).isLt (show ((cfg1 (F := Ideal) a).win 3).nblk (2 : Fin 3) = 1 from (show (8 + 8 - 1) / 8 = 1 by decide)))).symm

theorem covers_4 : ((cfg1 (F := Ideal) a).win 4).Covers := by
  refine Pipeline.Window.covers_of_index_surj _ rfl (fun b => match b with | ⟨0, _⟩ => (by decide : 0 < 256) | ⟨1, _⟩ => Nat.one_pos | ⟨2, _⟩ => (by decide : 0 < 8) | ⟨3, _⟩ => (by decide : 0 < 768)) ?_
  intro β
  have hb : (β (0 : Fin 4)).val < 16 := lt_of_lt_of_eq (β (0 : Fin 4)).isLt (show ((cfg1 (F := Ideal) a).win 4).nblk (0 : Fin 4) = 16 from (show (4096 + 256 - 1) / 256 = 16 by decide))
  have hj : (β (1 : Fin 4)).val < 8 := lt_of_lt_of_eq (β (1 : Fin 4)).isLt (show ((cfg1 (F := Ideal) a).win 4).nblk (1 : Fin 4) = 8 from (show (8 + 1 - 1) / 1 = 8 by decide))
  refine ⟨⟨8 * (β (0 : Fin 4)).val + (β (1 : Fin 4)).val, by rw [show (cfg1 a).grid.N = 128 from N1 a]; omega⟩, fun b => ?_⟩
  have hi := index_4 a ⟨8 * (β (0 : Fin 4)).val + (β (1 : Fin 4)).val, by rw [show (cfg1 a).N = 128 from N1 a]; omega⟩
  match b with
  | ⟨0, _⟩ => exact (congrFun hi (0 : Fin 4)).trans (by show (8 * (β (0 : Fin 4)).val + (β (1 : Fin 4)).val) / 8 = (β (0 : Fin 4)).val; omega)
  | ⟨1, _⟩ => exact (congrFun hi (1 : Fin 4)).trans (by show (8 * (β (0 : Fin 4)).val + (β (1 : Fin 4)).val) % 8 = (β (1 : Fin 4)).val; omega)
  | ⟨2, _⟩ => exact (congrFun hi (2 : Fin 4)).trans (Nat.lt_one_iff.mp (lt_of_lt_of_eq (β (2 : Fin 4)).isLt (show ((cfg1 (F := Ideal) a).win 4).nblk (2 : Fin 4) = 1 from (show (8 + 8 - 1) / 8 = 1 by decide)))).symm
  | ⟨3, _⟩ => exact (congrFun hi (3 : Fin 4)).trans (Nat.lt_one_iff.mp (lt_of_lt_of_eq (β (3 : Fin 4)).isLt (show ((cfg1 (F := Ideal) a).win 4).nblk (3 : Fin 4) = 1 from (show (768 + 768 - 1) / 768 = 1 by decide)))).symm

theorem emb_3 (t : Fin (cfg1 a).N) (i : Fin 256) (r : Fin 8) (h : t.val / 8 < 16) :
    (((cfg1 a).win 3).blk t).view.emb (ix3 (0 : Fin 1) i r : S1x256x8.Idx) = (ix3 (⟨t.val / 8, h⟩ : Fin 16) i r : S16x256x8.Idx) := by
  funext b
  apply Fin.ext
  match b with
  | ⟨0, _⟩ => blk_simp; rw [index_3]; rfl
  | ⟨1, _⟩ => blk_simp; rw [index_3]; show 0 * 256 + i.val = i.val; omega
  | ⟨2, _⟩ => blk_simp; rw [index_3]; show 0 * 8 + r.val = r.val; omega

theorem emb_4 (t : Fin (cfg1 a).N) (i : Fin 256) (l : Fin 8) (d : Fin 768) :
    (((cfg1 a).win 4).blk t).view.emb (ix4 i (0 : Fin 1) l d : S256x1x8x768.Idx) = (ix4 (qrow a t i) (rank a t) l d : S4096x8x8x768.Idx) := by
  funext b
  apply Fin.ext
  match b with
  | ⟨0, _⟩ => blk_simp; rw [index_4]; show t.val / 8 * 256 + i.val = 256 * (t.val / 8) + i.val; omega
  | ⟨1, _⟩ => blk_simp; rw [index_4]; rfl
  | ⟨2, _⟩ => blk_simp; rw [index_4]; show 0 * 8 + l.val = l.val; omega
  | ⟨3, _⟩ => blk_simp; rw [index_4]; show 0 * 768 + d.val = d.val; omega

include hκ in
theorem arr_3 : (Sel.dat a c X).arrAt 3 (cfg1 a).N = simBlocks c X κ := by
  refine (Sel.dat a c X).arrAt_eq_of_covers 3 _ (covers_3 a) fun t hf y => ?_
  have h16 : t.val / 8 < 16 := by have : t.val < 128 := t.isLt.trans_eq (N1 a); omega
  have at_ix : ∀ (u : Fin 1) (i : Fin 256) (r : Fin 8), Sel.simFull a c X t (ix3 u i r)
      = simBlocks c X κ ((((cfg1 a).win 3).blk t).view.emb (ix3 u i r : S1x256x8.Idx)) := fun u i r => by
    obtain rfl : u = 0 := Subsingleton.elim _ _
    rw [emb_3 a t i r h16]
    exact simFull_apply a c X κ hκ t i r
  have at_y : ∀ y : S1x256x8.Idx, Sel.simFull a c X t y = simBlocks c X κ ((((cfg1 a).win 3).blk t).view.emb y) := fun y => by
    rw [ValueIdx.eq_ix3 y]
    exact at_ix (y 0) (y 1) (y 2)
  exact at_y y

theorem pay2_apply (v : FVec Ideal S1x8x768 .f32) (i : Fin 256) (l : Fin 8) (d : Fin 768) :
    k1_pay2 (F := Ideal) v (ix4 i (0 : Fin 1) l d) = v (ix3 (0 : Fin 1) l d) := by
  unfold k1_pay2
  rw [broadcastTo_apply _ _ _ (ix4 (0 : Fin 1) (0 : Fin 1) l d) (fun a => match a with | ⟨0, _⟩ => rfl | ⟨1, _⟩ => rfl | ⟨2, _⟩ => rfl | ⟨3, _⟩ => rfl),
    shapeCast_self]
  exact ValueIdx.shapeCast_abc_1abc_apply _ _ _ _ _ _

include hκ in
theorem arr_4 : (Sel.dat a c X).arrAt 4 (cfg1 a).N = chosen c X κ := by
  refine (Sel.dat a c X).arrAt_eq_of_covers 4 _ (covers_4 a) fun t hf y => ?_
  have at_ix : ∀ (i : Fin 256) (u : Fin 1) (l : Fin 8) (d : Fin 768), k1_pay2 (F := Ideal) (Sel.prB a c X t) (ix4 i u l d)
      = chosen c X κ ((((cfg1 a).win 4).blk t).view.emb (ix4 i u l d : S256x1x8x768.Idx)) := fun i u l d => by
    obtain rfl : u = 0 := Subsingleton.elim _ _
    rw [emb_4 a t i l d, pay2_apply]
    exact prB_apply a c X κ hκ t l d
  have at_y : ∀ y : S256x1x8x768.Idx, k1_pay2 (F := Ideal) (Sel.prB a c X t) y = chosen c X κ ((((cfg1 a).win 4).blk t).view.emb y) := fun y => by
    rw [ValueIdx.eq_ix4 y]
    exact at_ix (y 0) (y 1) (y 2) (y 3)
  exact at_y y

end Cert.KernelIdeal.Arr
end
-- ==== Proof.Choice.lean ====
/- How often each key is among a query's eight best, and the eight keys most often so. -/
module

public import proofs.«01_k».proof.Proof.MatchRounds
public import proofs.«01_k».proof.Proof.Rounds
@[expose] public section

set_option maxRecDepth 16384

noncomputable section

namespace Cert.Choice

open Idealize.ShloMosaic Idealize.ShloMosaic.ValueIdx Cert.Pick Cert.Rounds
open Cert.MatchRounds (topPos)
open scoped BigOperators

/-- How often, over 4096 queries and eight ranks, key `k` is chosen. -/
def hist (S : Fin 4096 → Fin 1024 → EReal) (k : Fin 1024) : BitVec 32 :=
  ∑ n : Fin 4096, ∑ r : Fin 8, if topPos (S n) r = k then 1#32 else 0#32

/-- The key of rank `r` by how often it is chosen. -/
def topKeys (S : Fin 4096 → Fin 1024 → EReal) (r : Fin 8) : Fin 1024 :=
  sortedFrom (gtB fun k => (hist S k).toInt) (r.castLE (by decide : 8 ≤ 1024))

/-- A sum of ones and zeros counts the ones. -/
theorem sum_ones {ι : Type} [DecidableEq ι] (s : Finset ι) (p : ι → Prop) [DecidablePred p] :
    (∑ x ∈ s, if p x then 1#32 else 0#32) = BitVec.ofNat 32 (s.filter p).card := by
  induction s using Finset.induction_on with
  | empty => rfl
  | insert a s ha ih =>
    rw [Finset.sum_insert ha, ih, Finset.filter_insert]
    by_cases h : p a
    · rw [if_pos h, if_pos h, Finset.card_insert_of_notMem (fun hm => ha (Finset.mem_filter.mp hm).1), Nat.add_comm, BitVec.ofNat_add]
    · rw [if_neg h, if_neg h]
      exact BitVec.zero_add _

/-- The counts are at most 32768, so they are the same read signed. -/
theorem hist_nonneg (S : Fin 4096 → Fin 1024 → EReal) (k : Fin 1024) : 0 ≤ (hist S k).toInt := by
  unfold hist
  rw [← Fintype.sum_prod_type' (f := fun (n : Fin 4096) (r : Fin 8) => if topPos (S n) r = k then 1#32 else 0#32),
    sum_ones Finset.univ (fun x : Fin 4096 × Fin 8 => topPos (S x.1) x.2 = k)]
  have hc : (Finset.univ.filter fun x : Fin 4096 × Fin 8 => topPos (S x.1) x.2 = k).card ≤ 32768 :=
    (Finset.card_filter_le _ _).trans (by rw [Finset.card_univ, Fintype.card_prod, Fintype.card_fin, Fintype.card_fin])
  rw [toInt_ofNat_small _ (by omega)]
  exact Int.natCast_nonneg _

/-- The counts block by block: sixteen blocks of 256 queries. -/
theorem hist_blocks (S : Fin 4096 → Fin 1024 → EReal) (k : Fin 1024) :
    (∑ t : Fin 16, ∑ r : Fin 8, ∑ i : Fin 256, if topPos (S ⟨256 * t.val + i.val, by omega⟩) r = k then 1#32 else 0#32) = hist S k := by
  unfold hist
  rw [← Equiv.sum_comp (finProdFinEquiv (m := 16) (n := 256)), Fintype.sum_prod_type]
  refine Finset.sum_congr rfl fun t _ => ?_
  rw [Finset.sum_comm]
  refine Finset.sum_congr rfl fun i _ => Finset.sum_congr rfl fun r _ => ?_
  rw [show (⟨256 * t.val + i.val, by omega⟩ : Fin 4096) = finProdFinEquiv (t, i) from Fin.ext (Nat.add_comm _ _)]

/-- The second choice: over a row of counts, the selection's rounds name the keys in order. -/
theorem picks_hist (S : Fin 4096 → Fin 1024 → EReal) (s : IVec R1024 32) (h : ∀ k : Fin 1024, s (ix2 0 k) = hist S k) (r : Fin 8) :
    picks s (ix2 0 r) = BitVec.ofNat 32 (topKeys S r).val := by
  have e : vals s = fun k => (hist S k).toInt := funext fun k => congrArg BitVec.toInt (h k)
  rw [picks_sorted s fun j => by rw [e]; exact hist_nonneg S j]
  unfold topKeys
  rw [e]

end Cert.Choice
end
-- ==== Proof.KernelIdeal.Results.lean ====
/- What the kernel program ends with, entry by entry: the similarities with the eight chosen keys and the chosen keys' prompts. -/
module

public import proofs.«01_k».proof.Proof.KernelIdeal.CountsTotal
public import proofs.«01_k».proof.Proof.KernelIdeal.Launch
public import proofs.«01_k».proof.Proof.KernelIdeal.SelectArr
public import proofs.«01_k».proof.Proof.Choice
@[expose] public section

set_option maxRecDepth 16384

noncomputable section

namespace Cert.KernelIdeal

open Idealize.ShloMosaic Idealize.ShloMosaic.TcCoe Idealize.ShloMosaic.Tactic Idealize.ShloMosaic.StableHlo
open Idealize.ShloMosaic.ValueIdx (ix2 ix3 ix4)
open Cert.KernelIdeal.Gen Cert.Sim Cert.MatchRounds Cert.Choice

variable (m : (ℓ : Loc nD τ sig) → Buf (Elt Ideal) ℓ) (c : Dev nD)

/-- The chosen keys. -/
abbrev key (r : Fin 8) : Fin 1024 := topKeys (sims m 0) r

/-- The table of the second kernel holds the chosen keys. -/
theorem keys_apply (r : Fin 8) : keys m (ValueIdx.ix1 r) = BitVec.ofNat 32 (key m r).val := by
  unfold keys
  rw [ValueIdx.shapeCast_1a_a_apply]
  refine picks_hist (sims m 0) _ (fun k => ?_) r
  exact (counts_total m 0 k).trans (hist_blocks (sims m 0) k)

theorem keys_toNat (r : Fin 8) : (keys m (ValueIdx.ix1 r)).toNat = (key m r).val := by
  rw [keys_apply, BitVec.toNat_ofNat]
  exact Nat.mod_eq_of_lt (by have := (key m r).isLt; omega)

theorem X7_arg0 : X7 m c main_arg0 = Q m c := by
  show V7 m (outsA m) c main_arg0 = _
  rw [V7_of m (outsA m) c main_arg0 (by decide), V6_of m (outsA m) c main_arg0 (by decide), V5_arg0]

theorem X7_arg2 : X7 m c main_arg2 = P m c := by
  show V7 m (outsA m) c main_arg2 = _
  rw [V7_of m (outsA m) c main_arg2 (by decide), V6_of m (outsA m) c main_arg2 (by decide), V5_of m c main_arg2 (by decide), V4_of m c main_arg2 (by decide),
    V3_of m c main_arg2 (by decide), V2_of m c main_arg2 (by decide), V1_of m c main_arg2 (by decide)]

theorem X7_v9 : X7 m c main_v9 = shapeCast S1024x1x768 (K m c) shapeCasts_S1024x768_S1024x1x768 := by
  have e : V6 m (outsA m) c main_arg1 = K m c := by rw [V6_of m (outsA m) c main_arg1 (by decide), V5_arg1]
  rw [← e]
  show StableHlo.after hostOps1 (V6 m (outsA m) c) (Proc.devRef .tc main_v9) = _
  simp only [hostOps1]
  after_results_simp
  rfl

theorem arrRef_inj : Function.Injective (Pipeline.arrRef spec1) := by decide

/-- The table holds each chosen key's number. -/
theorem table_apply (r : Fin 8) : (show BitVec 32 from (adm1 m).1 0 (ValueIdx.ix1 r)).toNat = (key m r).val := by
  show (show BitVec 32 from tbl m 0 _).toNat = _
  rw [tbl_0]
  exact keys_toNat m r

/-- The second result: for each query, the prompts of the chosen keys. -/
theorem prompts_eq (n : Fin 4096) (r : Fin 8) (l : Fin 8) (d : Fin 768) :
    (show FVec Ideal S4096x8x8x768 .f32 from V9 m (outs m) c main_v10_1) (ix4 n r l d) = P m c (ix3 (key m r) l d) := by
  have h8 : V8 m (outs m) c main_v10_1 = outs m 8 main_v10_1 c := Function.update_self ..
  have ha : outs m 8 main_v10_1 c = Arr.chosen c (X7 m c) (key m) :=
    (Pipeline.afterRegion_arr (Sel.dat (adm1 m) c (X7 m c)) (V7 m (outsA m) c) arrRef_inj 4).trans (Arr.arr_4 (adm1 m) c (X7 m c) (key m) (table_apply m))
  rw [V9_of m (outs m) c main_v10_1 (by decide), h8, ha]
  unfold Arr.chosen
  dsimp only
  rw [X7_arg2]

/-- A key's row as the second kernel's reshaped array of keys holds it. -/
theorem key_row (k : Fin 1024) : (fun d => (show FVec Ideal S1024x1x768 .f32 from X7 m c main_v9) (ix3 k (0 : Fin 1) d)) = vec (K m c) k := by
  funext d
  rw [X7_v9]
  exact shapeCast_apply _ _ _ _ (by rw [Shape.rowMajor_val_two, Shape.rowMajor_val_three]; show k.val * 768 + d.val = (k.val * 1 + 0) * 768 + d.val; omega)

/-- The first result: for each query, its similarities with the chosen keys. -/
theorem sims_eq (n : Fin 4096) (r : Fin 8) :
    (show FVec Ideal S4096x8 .f32 from V9 m (outs m) c main_v11) (ix2 n r) = sims m c n (key m r) := by
  have h8 : V8 m (outs m) c main_v10_0 = Arr.simBlocks c (X7 m c) (key m) := by
    have hu : V8 m (outs m) c main_v10_0 = outs m 8 main_v10_0 c :=
      (Function.update_of_ne (StableHlo.devRef_ne_of_ne (by decide)) _ _).trans (Function.update_self ..)
    rw [hu]
    exact (Pipeline.afterRegion_arr (Sel.dat (adm1 m) c (X7 m c)) (V7 m (outsA m) c) arrRef_inj 3).trans (Arr.arr_3 (adm1 m) c (X7 m c) (key m) (table_apply m))
  have h9 : V9 m (outs m) c main_v11 = shapeCast S4096x8 (Arr.simBlocks c (X7 m c) (key m)) shapeCasts_S16x256x8_S4096x8 := by
    rw [← h8]
    show StableHlo.after hostOps2 (V8 m (outs m) c) (Proc.devRef .tc main_v11) = _
    simp only [hostOps2]
    after_results_simp
    rfl
  have hn : n.val / 256 < 16 := by have := n.isLt; omega
  rw [h9]
  refine (shapeCast_apply _ _ _ (ix3 (⟨n.val / 256, hn⟩ : Fin 16) (⟨n.val % 256, Nat.mod_lt _ (by decide)⟩ : Fin 256) r) ?_).trans ?_
  · rw [Shape.rowMajor_val_two, Shape.rowMajor_val_three]
    show (n.val / 256 * 256 + n.val % 256) * 8 + r.val = n.val * 8 + r.val
    omega
  · unfold Arr.simBlocks Arr.simAt sims
    rw [X7_arg0]
    refine congrArg₂ sim (congrArg (vec (Q m c)) (Fin.ext ?_)) (key_row m c (key m r))
    show 256 * (n.val / 256) + n.val % 256 = n.val
    omega

end Cert.KernelIdeal
end
-- ==== Proof.TopK.lean ====
/- The positions of the greatest entries, as the host's top-k names them: those of the stable sort, greater first. -/
module

public import proofs.«01_k».proof.Proof.Pick
public import Idealize.ShloMosaic.PureOps.Ideal.Laws
public import Idealize.ShloMosaic.Lib.ValueIdxCore
public import Idealize.ShloMosaic.Lib.ValueIdx
public import Idealize.ShloMosaic.Lib.ValueLayout
public import Idealize.ShloMosaic.Lib.SortFacts
@[expose] public section

set_option maxRecDepth 16384

noncomputable section

namespace Cert.TopK

open Idealize.ShloMosaic Idealize.ShloMosaic.ValueIdx Cert.Pick

/-- On the extended reals the total order's "greater" is the order's. -/
theorem total_gt (x y : EReal) : (FloatOps.cmpfTotal (F := Ideal) (φ := .f32) .gt x y == 1#1) = decide (y < x) := by
  show (Ideal.cmp CmpDirection.gt.ordered x y == 1#1) = decide (y < x)
  by_cases h : y < x <;> simp [Ideal.cmp, CmpDirection.ordered, h]

/-- On words the signed "greater" is that of their signed values. -/
theorem signed_gt (x y : BitVec 32) : (IntOp.cmpi .sgt x y == 1#1) = decide (y.toInt < x.toInt) := by
  by_cases h : y.toInt < x.toInt <;> simp [IntOp.cmpi, BitVec.slt, h]

/-- Moving an index of a matrix along its second axis. -/
theorem along_row {R C : ℕ} (n : Fin R) (c d : Fin C) : (ix2 n c).along (1 : Fin 2) d = ix2 n d := by
  funext a
  match a with
  | ⟨0, _⟩ => exact Function.update_of_ne (a' := (1 : Fin 2)) (show (0 : Fin 2) ≠ 1 by decide) _ _
  | ⟨1, _⟩ => exact Function.update_self _ _ _

/-- Along the rows of a matrix: position `r` of row `n` is that of the row's stable sort, greater first. -/
theorem topK_rows {R C k : ℕ} (hk : k ≤ C) (v : FVec Ideal ⟨2, ![R, C]⟩ .f32)
    (h : (⟨2, ![R, C]⟩ : Shape).Slices (fun _ => 0) ⟨2, ![R, k]⟩) (n : Fin R) (r : Fin k) :
    (Host.topK ⟨2, ![R, k]⟩ 1 (FloatOps.cmpfTotal (F := Ideal) (φ := .f32) .gt) v h).2 (ix2 n r)
      = BitVec.ofNat 32 (sortedFrom (gtB fun c : Fin C => v (ix2 n c)) (r.castLE hk)).val := by
  show extractStridedSlice ⟨2, ![R, k]⟩ (fun _ => 0) (Host.sort2 ⟨2, ![R, C]⟩ 1
    (fun p q : EReal × BitVec 32 => FloatOps.cmpfTotal (F := Ideal) (φ := .f32) .gt p.1 q.1) v
    (fun i => if hd : 1 < 2 then iotaInDim ⟨2, ![R, C]⟩ 32 ⟨1, hd⟩ i else 0#32)).2 h (ix2 n r) = _
  refine (extractStridedSlice_apply (s := ⟨2, ![R, C]⟩) (t := ⟨2, ![R, k]⟩) (fun _ => 0) _ h (ix2 n r) (ix2 n (r.castLE hk)) fun a => ?_).trans ?_
  · match a with
    | ⟨0, _⟩ => simp [ix2]
    | ⟨1, _⟩ => simp [ix2]
  · unfold Host.sort2
    rw [dif_pos (show 1 < (⟨2, ![R, C]⟩ : Shape).rank from Nat.lt_succ_self 1)]
    have e : ∀ d : Fin C, (ix2 n (r.castLE hk)).along (1 : Fin 2) d = ix2 n d := fun d => along_row n _ d
    have hs : (fun p q : Fin C => FloatOps.cmpfTotal (F := Ideal) (φ := .f32) .gt (v ((ix2 n (r.castLE hk)).along (1 : Fin 2) p))
          (v ((ix2 n (r.castLE hk)).along (1 : Fin 2) q)) == 1#1) = gtB fun c : Fin C => v (ix2 n c) := by
      funext p q
      rw [e, e]
      exact total_gt _ _
    show (if hd : 1 < 2 then iotaInDim ⟨2, ![R, C]⟩ 32 ⟨1, hd⟩ ((ix2 n (r.castLE hk)).along (1 : Fin 2)
      (sortedFrom (fun p q : Fin C => FloatOps.cmpfTotal (F := Ideal) (φ := .f32) .gt (v ((ix2 n (r.castLE hk)).along (1 : Fin 2) p))
          (v ((ix2 n (r.castLE hk)).along (1 : Fin 2) q)) == 1#1) (r.castLE hk))) else 0#32) = _
    rw [hs, dif_pos (by decide : 1 < 2)]
    exact (congrArg (iotaInDim ⟨2, ![R, C]⟩ 32 (1 : Fin 2)) (e _)).trans rfl

/-- Along a vector of words: position `r` is that of the stable sort of their signed values, greater first. -/
theorem topK_words {C k : ℕ} (hk : k ≤ C) (v : IVec ⟨1, ![C]⟩ 32)
    (h : (⟨1, ![C]⟩ : Shape).Slices (fun _ => 0) ⟨1, ![k]⟩) (r : Fin k) :
    (Host.topK ⟨1, ![k]⟩ 0 (IntOp.cmpi .sgt) v h).2 (ValueIdx.ix1 r)
      = BitVec.ofNat 32 (sortedFrom (gtB fun c : Fin C => (v (ValueIdx.ix1 c)).toInt) (r.castLE hk)).val := by
  show extractStridedSlice ⟨1, ![k]⟩ (fun _ => 0) (Host.sort2 ⟨1, ![C]⟩ 0
    (fun p q : BitVec 32 × BitVec 32 => IntOp.cmpi .sgt p.1 q.1) v
    (fun i => if hd : 0 < 1 then iotaInDim ⟨1, ![C]⟩ 32 ⟨0, hd⟩ i else 0#32)).2 h (ValueIdx.ix1 r) = _
  refine (extractStridedSlice_apply (s := ⟨1, ![C]⟩) (t := ⟨1, ![k]⟩) (fun _ => 0) _ h (ValueIdx.ix1 r) (ValueIdx.ix1 (r.castLE hk)) fun a => ?_).trans ?_
  · match a with
    | ⟨0, _⟩ => simp [ValueIdx.ix1]
  · unfold Host.sort2
    rw [dif_pos (show 0 < (⟨1, ![C]⟩ : Shape).rank from Nat.one_pos)]
    have e : ∀ d : Fin C, (ValueIdx.ix1 (r.castLE hk)).along (0 : Fin 1) d = ValueIdx.ix1 d := fun d => by
      funext a
      match a with
      | ⟨0, _⟩ => exact Function.update_self _ _ _
    have hs : (fun p q : Fin C => IntOp.cmpi .sgt (v ((ValueIdx.ix1 (r.castLE hk)).along (0 : Fin 1) p))
          (v ((ValueIdx.ix1 (r.castLE hk)).along (0 : Fin 1) q)) == 1#1) = gtB fun c : Fin C => (v (ValueIdx.ix1 c)).toInt := by
      funext p q
      rw [e, e]
      exact signed_gt _ _
    show (if hd : 0 < 1 then iotaInDim ⟨1, ![C]⟩ 32 ⟨0, hd⟩ ((ValueIdx.ix1 (r.castLE hk)).along (0 : Fin 1)
      (sortedFrom (fun p q : Fin C => IntOp.cmpi .sgt (v ((ValueIdx.ix1 (r.castLE hk)).along (0 : Fin 1) p))
          (v ((ValueIdx.ix1 (r.castLE hk)).along (0 : Fin 1) q)) == 1#1) (r.castLE hk))) else 0#32) = _
    rw [hs, dif_pos (by decide : 0 < 1)]
    exact (congrArg (iotaInDim ⟨1, ![C]⟩ 32 (0 : Fin 1)) (e _)).trans rfl

end Cert.TopK
-- ==== Proof.Gathers.lean ====
/- Two gathers by one index word per rank read at an index: whole slabs of a rank-3 operand, and entries along the rows of a matrix.
   And a scatter that adds ones: how often each position is named. -/
module

public import Idealize.ShloMosaic.Lib.ValueIdxCore
public import Idealize.ShloMosaic.Lib.ValueIdx
public import Idealize.ShloMosaic.Lib.ValueLayout
public import Idealize.ShloMosaic.Lib.WordSum
public import Idealize.ShloMosaic.Lib.Routing.OpsPair
@[expose] public section

set_option maxRecDepth 16384

noncomputable section

namespace Cert.Gathers

open Idealize.ShloMosaic Idealize.ShloMosaic.ValueIdx
open scoped BigOperators

section Slabs
variable {α : Type} {N L D R C : ℕ}

/-- The gather of whole slabs: result `(n, r, l, d)` is the operand at `(i, l, d)` for `i` the index word of `(n, r)`, when the word is
    one of the operand's positions. -/
theorem gather_slabs (wf : GatherDims.WF ⟨3, ![N, L, D]⟩ ⟨3, ![R, C, 1]⟩ ⟨4, ![R, C, L, D]⟩ [2, 3] [0] [] [0] [] 2 ![1, L, D])
    (g : GatherDims ⟨3, ![N, L, D]⟩ ⟨3, ![R, C, 1]⟩ ⟨4, ![R, C, L, D]⟩)
    (hg : g = ⟨[2, 3], [0], [], [], [0], 2, ![1, L, D], wf⟩)
    (x : (⟨3, ![N, L, D]⟩ : Shape).Idx → α) (idx : IVec ⟨3, ![R, C, 1]⟩ 32) (n : Fin R) (r : Fin C) (l : Fin L) (d : Fin D) (k : Fin N)
    (h : (idx (ix3 n r (0 : Fin 1))).toInt = (k.val : Int)) :
    Host.gather g x idx (ix4 n r l d) = x (ix3 k l d) := by
  subst hg
  unfold Host.gather
  congr 1
  funext a
  refine Fin.ext ?_
  set g : GatherDims ⟨3, ![N, L, D]⟩ ⟨3, ![R, C, 1]⟩ ⟨4, ![R, C, L, D]⟩ := ⟨[2, 3], [0], [], [], [0], 2, ![1, L, D], wf⟩ with hg
  show g.start (ix4 n r l d) idx a + g.batchCoord (ix4 n r l d) a + g.offCoord (ix4 n r l d) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ g.startIndexMap from List.mem_singleton.mpr rfl)]
    have hsi : g.siIdx (ix4 n r l d) ⟨List.idxOf (0 : Fin 3) g.startIndexMap,
        List.idxOf_lt_length_iff.2 (List.mem_singleton.mpr rfl)⟩ = ix3 n r (0 : Fin 1) := by
      funext b; refine Fin.ext ?_
      match b with
      | ⟨0, _⟩ => rfl
      | ⟨1, _⟩ => rfl
      | ⟨2, _⟩ => rfl
    have hk := k.isLt
    show min (idx (g.siIdx (ix4 n r l d) ⟨List.idxOf (0 : Fin 3) g.startIndexMap, _⟩)).toInt.toNat (N - 1) + 0 + 0 = k.val
    rw [hsi, h]
    omega
  · unfold GatherDims.start
    rw [dif_neg (show ¬ (1 : Fin 3) ∈ g.startIndexMap by rw [hg]; exact (by decide : ¬ (1 : Fin 3) ∈ [(0 : Fin 3)]))]
    show 0 + 0 + l.val = l.val
    omega
  · unfold GatherDims.start
    rw [dif_neg (show ¬ (2 : Fin 3) ∈ g.startIndexMap by rw [hg]; exact (by decide : ¬ (2 : Fin 3) ∈ [(0 : Fin 3)]))]
    show 0 + 0 + d.val = d.val
    omega

end Slabs

section Entries
variable {α : Type} {N R C : ℕ}

/-- The gather along the rows of a matrix: result `(n, r)` is the entry of row `n` at the index word of `(n, r)`, when the word is one of
    the row's positions. -/
theorem gather_entries (wf : GatherDims.WF ⟨2, ![R, N]⟩ ⟨3, ![R, C, 1]⟩ ⟨2, ![R, C]⟩ [] [1] [0] [1] [0] 2 ![1, 1])
    (g : GatherDims ⟨2, ![R, N]⟩ ⟨3, ![R, C, 1]⟩ ⟨2, ![R, C]⟩) (hg : g = ⟨[], [1], [0], [0], [1], 2, ![1, 1], wf⟩)
    (x : (⟨2, ![R, N]⟩ : Shape).Idx → α) (idx : IVec ⟨3, ![R, C, 1]⟩ 32) (n : Fin R) (r : Fin C) (k : Fin N)
    (h : (idx (ix3 n r (0 : Fin 1))).toInt = (k.val : Int)) :
    Host.gather g x idx (ix2 n r) = x (ix2 n k) := by
  subst hg
  unfold Host.gather
  congr 1
  funext a
  refine Fin.ext ?_
  set g : GatherDims ⟨2, ![R, N]⟩ ⟨3, ![R, C, 1]⟩ ⟨2, ![R, C]⟩ := ⟨[], [1], [0], [0], [1], 2, ![1, 1], wf⟩ with hg
  show g.start (ix2 n r) idx a + g.batchCoord (ix2 n r) a + g.offCoord (ix2 n r) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    show 0 + n.val + 0 = n.val
    omega
  · rw [GatherDims.batchCoord_eq_zero _ _ _ (fun h => absurd (List.mem_singleton.mp h) (show ¬ (1 : Fin 2) = 0 by decide)),
      GatherDims.offCoord_eq_zero _ _ _ (fun h => ((GatherDims.mem_sKept _ _).mp h).1 (List.mem_singleton.mpr rfl))]
    unfold GatherDims.start
    rw [dif_pos (show (1 : Fin 2) ∈ g.startIndexMap from List.mem_singleton.mpr rfl)]
    have hsi : g.siIdx (ix2 n r) ⟨List.idxOf (1 : Fin 2) g.startIndexMap,
        List.idxOf_lt_length_iff.2 (List.mem_singleton.mpr rfl)⟩ = ix3 n r (0 : Fin 1) := by
      funext b; refine Fin.ext ?_
      match b with
      | ⟨0, _⟩ => rfl
      | ⟨1, _⟩ => rfl
      | ⟨2, _⟩ => rfl
    have hk := k.isLt
    show min (idx (g.siIdx (ix2 n r) ⟨List.idxOf (1 : Fin 2) g.startIndexMap, _⟩)).toInt.toNat (N - 1) + 0 + 0 = k.val
    rw [hsi, h]
    omega

end Entries

section Ones
variable {N M : ℕ}

/-- Update `i` of a scatter of scalars into a vector, one index word each, lands where its word, read signed, says. -/
theorem lands (wf : ScatterDims.WF ⟨1, ![N]⟩ ⟨2, ![M, 1]⟩ ⟨1, ![M]⟩ [] [0] [0] 1)
    (idx : IVec ⟨2, ![M, 1]⟩ 32) (i : Fin M) (k : Fin N) :
    (ScatterDims.resultIdx? (s := ⟨1, ![N]⟩) (si := ⟨2, ![M, 1]⟩) (u := ⟨1, ![M]⟩) ⟨[], [0], [0], 1, wf⟩ (ValueIdx.ix1 i) idx
        = some (ValueIdx.ix1 k)) ↔ (idx (ix2 i (0 : Fin 1))).toInt = (k.val : Int) := by
  rw [Routing.resultIdx?_eq_some]
  set g : ScatterDims ⟨1, ![N]⟩ ⟨2, ![M, 1]⟩ ⟨1, ![M]⟩ := ⟨[], [0], [0], 1, wf⟩ with hg
  have hw : g.window (ValueIdx.ix1 i) 0 = 0 := by
    unfold ScatterDims.window
    rw [dif_neg fun h => (of_decide_eq_true (List.mem_filter.1 h).2) (List.mem_singleton.2 rfl)]
  have hs : g.start (ValueIdx.ix1 i) idx 0 = (idx (ix2 i (0 : Fin 1))).toInt := by
    unfold ScatterDims.start
    rw [dif_pos (show (0 : Fin 1) ∈ g.scatterDimsToOperandDims from List.mem_singleton.2 rfl)]
    refine congrArg (fun j => (idx j).toInt) (funext fun b => Fin.ext ?_)
    match b with
    | ⟨0, _⟩ => rfl
    | ⟨1, _⟩ => rfl
  constructor
  · intro h
    have := h 0
    rw [hw, hs] at this
    rwa [Nat.cast_zero, Int.add_zero] at this
  · intro h a
    obtain rfl : a = 0 := Subsingleton.elim _ _
    rw [hw, hs, h, Nat.cast_zero, Int.add_zero]
    rfl

/-- Adding terms one by one to zero is summing them. -/
theorem foldl_ones {n : ℕ} (p : Fin n → Prop) [DecidablePred p] (a : BitVec 32) (l : List (Fin n)) :
    l.foldl (fun b i => if p i then IntOp.addi b 1#32 else b) a = a + (l.map fun i => if p i then 1#32 else 0#32).sum := by
  induction l generalizing a with
  | nil => exact (BitVec.add_zero a).symm
  | cons i l ih =>
    rw [List.foldl_cons, ih, List.map_cons, List.sum_cons]
    by_cases h : p i
    · rw [if_pos h, if_pos h, show IntOp.addi a 1#32 = a + 1#32 from rfl, BitVec.add_assoc]
    · rw [if_neg h, if_neg h, show (0#32 : BitVec 32) + _ = _ from BitVec.zero_add _]

/-- Scattering ones into zeros by addition counts how often a position is named. -/
theorem scatter_ones (wf : ScatterDims.WF ⟨1, ![N]⟩ ⟨2, ![M, 1]⟩ ⟨1, ![M]⟩ [] [0] [0] 1)
    (g : ScatterDims ⟨1, ![N]⟩ ⟨2, ![M, 1]⟩ ⟨1, ![M]⟩) (hg : g = ⟨[], [0], [0], 1, wf⟩)
    (z : IVec ⟨1, ![N]⟩ 32) (hz : ∀ j, z j = 0#32) (o : IVec ⟨1, ![M]⟩ 32) (ho : ∀ j, o j = 1#32)
    (idx : IVec ⟨2, ![M, 1]⟩ 32) (κ : Fin M → Fin N) (hκ : ∀ i, (idx (ix2 i (0 : Fin 1))).toInt = ((κ i).val : Int)) (k : Fin N) :
    Host.scatter g IntOp.addi z idx o (ValueIdx.ix1 k) = ∑ i : Fin M, if κ i = k then 1#32 else 0#32 := by
  subst hg
  have hn : (⟨1, ![M]⟩ : Shape).numel = M := by simp [Shape.numel]
  have hsym : ∀ n : Fin (⟨1, ![M]⟩ : Shape).numel, (⟨1, ![M]⟩ : Shape).rowMajor.symm n = ValueIdx.ix1 (n.cast hn) := fun n => by
    rw [Equiv.symm_apply_eq]
    exact Fin.ext (Shape.rowMajor_val_one (ValueIdx.ix1 (n.cast hn))).symm
  have hl : ∀ n : Fin (⟨1, ![M]⟩ : Shape).numel,
      (ScatterDims.resultIdx? (s := ⟨1, ![N]⟩) (si := ⟨2, ![M, 1]⟩) (u := ⟨1, ![M]⟩) ⟨[], [0], [0], 1, wf⟩
        ((⟨1, ![M]⟩ : Shape).rowMajor.symm n) idx = some (ValueIdx.ix1 k)) ↔ κ (n.cast hn) = k := fun n => by
    rw [hsym, lands, hκ, Fin.ext_iff]
    omega
  rw [Routing.scatter_at, hz]
  simp only [hl, ho]
  rw [foldl_ones (fun n => κ (n.cast hn) = k), show (0#32 : BitVec 32) + _ = _ from BitVec.zero_add _,
    ← List.ofFn_eq_map, List.sum_ofFn]
  exact Fintype.sum_equiv (finCongr hn) _ _ fun n => rfl

end Ones

end Cert.Gathers
-- ==== Proof.ReferenceIdeal.Steps.lean ====
/- The reference's operations in five steps, each read at an index: the similarities, the eight best positions of every query, how often
   each key is named, the eight keys named most often, and what is taken at them. -/
module

public import proofs.«01_k».proof.Proof.HostNorm
public import proofs.«01_k».proof.Proof.TopK
public import proofs.«01_k».proof.Proof.Gathers
public import proofs.«01_k».proof.Proof.MatchRounds
public import proofs.«01_k».proof.Proof.Gen.ReferenceIdeal.Run
public import Idealize.ShloMosaic.Lib.StackMember
public import Idealize.ShloMosaic.Lib.Pointwise.ElementwiseCore
@[expose] public section

set_option maxRecDepth 16384

noncomputable section

namespace Cert.ReferenceIdeal.Value

open Cert.ReferenceIdeal Cert.ReferenceIdeal.Gen Idealize.ShloMosaic Idealize.ShloMosaic.TcCoe
open Idealize.ShloMosaic.ValueIdx (ix2 ix3 ix4 broadcastInDim_scalar_apply)
open Cert.Sim (sim vec host_norm)
open Cert.Pick (gtB toInt_ofNat_small)
open Cert.MatchRounds (topPos)
open scoped BigOperators

/-- The similarities. -/
def scores (q : FVec Ideal S4096x768 .f32) (k : FVec Ideal S1024x768 .f32) : FVec Ideal S4096x1024 .f32 :=
  Host.divf (Host.dotGeneral dot_S4096x768_S768x1024_S4096x1024_1_0_0_1_n_n none q (transpose S768x1024 [1, 0] k transposes_S1024x768_S768x1024_1_0))
    (mulf (broadcastInDim S4096x1024 ![0, 1] bcast_S4096x1_S4096x1024_0_1 (maximumf (Host.sqrt (broadcastInDim S4096x1 ![0] bcast_S4096_S4096x1_0
        (Host.reduceAdd (mulf q q) (constant (F := Ideal) S_ .f32 0x00000000#32) reducesTo_S4096x768_S4096_d1 h_S_)))
          (broadcastInDim S4096x1 ![] bcast_S_S4096x1 (constant (F := Ideal) S_ .f32 0x322BCC77#32))))
      (broadcastInDim S4096x1024 ![0, 1] bcast_S1x1024_S4096x1024_0_1 (transpose S1x1024 [1, 0] (maximumf (Host.sqrt (broadcastInDim S1024x1 ![0] bcast_S1024_S1024x1_0
        (Host.reduceAdd (mulf k k) (constant (F := Ideal) S_ .f32 0x00000000#32) reducesTo_S1024x768_S1024_d1 h_S_)))
          (broadcastInDim S1024x1 ![] bcast_S_S1024x1 (constant (F := Ideal) S_ .f32 0x322BCC77#32))) transposes_S1024x1_S1x1024_1_0)))

/-- A similarity is that of its query and its key. -/
theorem scores_apply (q : FVec Ideal S4096x768 .f32) (k : FVec Ideal S1024x768 .f32) (n : Fin 4096) (j : Fin 1024) :
    scores q k (ix2 n j) = sim (vec q n) (vec k j) := by
  unfold scores
  rw [ValueIdx.hostDivf_apply, ValueIdx.mulf_apply]
  unfold sim
  refine congrArg₂ Ideal.div ?_ (congrArg₂ (· * ·) ?_ ?_)
  · refine (StackMember.dotGeneral_plain_apply (m := 4096) (k := 768) (n := 1024) none q _ n j).trans ?_
    unfold Sim.dot
    refine Finset.sum_congr rfl fun d _ => congrArg (q (ix2 n d) * ·) ?_
    refine transpose_apply _ _ _ _ (ix2 j d) fun b => ?_
    match b with | ⟨0, _⟩ => rfl | ⟨1, _⟩ => rfl
  · refine (broadcastInDim_apply _ _ _ (ix2 n j) (ix2 n (0 : Fin 1)) fun a => ?_).trans (host_norm q _ (by decide) _ _ _ n)
    match a with | ⟨0, _⟩ => rfl | ⟨1, _⟩ => rfl
  · refine (broadcastInDim_apply _ _ _ (ix2 n j) (ix2 (0 : Fin 1) j) fun a => ?_).trans ?_
    · match a with | ⟨0, _⟩ => rfl | ⟨1, _⟩ => rfl
    refine (transpose_apply _ _ _ _ (ix2 j (0 : Fin 1)) fun b => ?_).trans (host_norm k _ (by decide) _ _ _ j)
    match b with | ⟨0, _⟩ => rfl | ⟨1, _⟩ => rfl

/-- The eight best positions of every query, in one row. -/
def ranks (v : FVec Ideal S4096x1024 .f32) : IVec S32768 32 :=
  shapeCast S32768 (Host.topK S4096x8 1 (FloatOps.cmpfTotal (F := Ideal) (φ := .f32) .gt) v sliceFits_S4096x1024_S4096x8).2 shapeCasts_S4096x8_S32768

theorem ranks_apply (v : FVec Ideal S4096x1024 .f32) (n : Fin 4096) (r : Fin 8) :
    ranks v (ValueIdx.ix1 (finProdFinEquiv (n, r) : Fin 32768)) = BitVec.ofNat 32 (topPos (fun k => v (ix2 n k)) r).val := by
  unfold ranks
  refine (shapeCast_apply _ _ _ (ix2 n r) ?_).trans (TopK.topK_rows (by decide : 8 ≤ 1024) v _ n r)
  rw [Shape.rowMajor_val_one, Shape.rowMajor_val_two]
  show n.val * 8 + r.val = r.val + 8 * n.val
  omega

/-- A position is not negative, and is left as it is where negative positions would be moved up. -/
theorem keep_position (k : Fin 1024) :
    Scalar.select (IntOp.cmpi .slt (BitVec.ofNat 32 k.val) 0#32) (IntOp.addi (BitVec.ofNat 32 k.val) 1024#32) (BitVec.ofNat 32 k.val)
      = BitVec.ofNat 32 k.val := by
  have h : (BitVec.ofNat 32 k.val).slt 0#32 = false := by
    rw [BitVec.slt, toInt_ofNat_small _ (by omega)]
    exact decide_eq_false (by simp)
  unfold Scalar.select IntOp.cmpi
  simp [h]

theorem max_position (k : Fin 1024) : IntOp.maxsi 0#32 (BitVec.ofNat 32 k.val) = BitVec.ofNat 32 k.val := by
  unfold IntOp.maxsi
  by_cases h : (BitVec.ofNat 32 k.val).slt 0#32 = true
  · rw [BitVec.slt, toInt_ofNat_small k.val (by omega)] at h
    have h' : (k.val : Int) < 0 := of_decide_eq_true h
    omega
  · rw [if_neg h]

/-- How often each key is named. -/
def counts (p : IVec S32768 32) : IVec S1024 32 :=
  Host.scatter scatter_S1024_S32768x1_S32768_n_0_0_1 IntOp.addi (broadcastInDim S1024 ![] bcast_S_S1024 (constantI S_ 32 0#32))
    (broadcastInDim S32768x1 ![0] bcast_S32768_S32768x1_0
      (select (cmpi .slt (maxsi (broadcastInDim S32768 ![] bcast_S_S32768 (id (constantI S_ 32 0#32))) p)
          (broadcastInDim S32768 ![] bcast_S_S32768 (constantI S_ 32 0#32)))
        (addi (maxsi (broadcastInDim S32768 ![] bcast_S_S32768 (id (constantI S_ 32 0#32))) p)
          (broadcastInDim S32768 ![] bcast_S_S32768 (constantI S_ 32 1024#32)))
        (maxsi (broadcastInDim S32768 ![] bcast_S_S32768 (id (constantI S_ 32 0#32))) p)))
    (broadcastInDim S32768 ![] bcast_S_S32768 (constantI S_ 32 1#32))

theorem counts_apply (p : IVec S32768 32) (κ : Fin 32768 → Fin 1024) (hp : ∀ i : Fin 32768, p (ValueIdx.ix1 i) = BitVec.ofNat 32 (κ i).val)
    (k : Fin 1024) : counts p (ValueIdx.ix1 k) = ∑ i : Fin 32768, if κ i = k then 1#32 else 0#32 := by
  unfold counts
  refine Gathers.scatter_ones (N := 1024) (M := 32768) scatter_S1024_S32768x1_S32768_n_0_0_1.wf _ rfl _ (fun j => broadcastInDim_scalar_apply _ _ _) _
    (fun j => broadcastInDim_scalar_apply _ _ _) _ κ (fun i => ?_) k
  have hz : ∀ j, (broadcastInDim S32768 ![] bcast_S_S32768 (id (constantI S_ 32 0#32)) : IVec S32768 32) j = 0#32 := fun j =>
    broadcastInDim_scalar_apply _ _ _
  have hz' : ∀ j, (broadcastInDim S32768 ![] bcast_S_S32768 (constantI S_ 32 0#32) : IVec S32768 32) j = 0#32 := fun j =>
    broadcastInDim_scalar_apply _ _ _
  have hm : ∀ j, (broadcastInDim S32768 ![] bcast_S_S32768 (constantI S_ 32 1024#32) : IVec S32768 32) j = 1024#32 := fun j =>
    broadcastInDim_scalar_apply _ _ _
  refine (congrArg BitVec.toInt ((broadcastInDim_apply _ _ _ (ix2 i (0 : Fin 1)) (ValueIdx.ix1 i) fun a => ?_).trans ?_)).trans
    (toInt_ofNat_small (κ i).val (by omega))
  · match a with | ⟨0, _⟩ => rfl
  rw [ValueIdx.select_apply, cmpi_apply, addi_apply, maxsi_apply, hz, hz', hm, hp, max_position]
  exact keep_position (κ i)

/-- The eight keys named most often, the same for every query. -/
def slots (h : IVec S1024 32) : IVec S4096x8 32 :=
  select (cmpi .slt (broadcastInDim S4096x8 ![0, 1] bcast_S1x8_S4096x8_0_1 (broadcastInDim S1x8 ![1] bcast_S8_S1x8_1
        (Host.topK S8 0 (IntOp.cmpi .sgt) h sliceFits_S1024_S8).2)) (broadcastInDim S4096x8 ![] bcast_S_S4096x8 (constantI S_ 32 0#32)))
    (addi (broadcastInDim S4096x8 ![0, 1] bcast_S1x8_S4096x8_0_1 (broadcastInDim S1x8 ![1] bcast_S8_S1x8_1
        (Host.topK S8 0 (IntOp.cmpi .sgt) h sliceFits_S1024_S8).2)) (broadcastInDim S4096x8 ![] bcast_S_S4096x8 (constantI S_ 32 1024#32)))
    (broadcastInDim S4096x8 ![0, 1] bcast_S1x8_S4096x8_0_1 (broadcastInDim S1x8 ![1] bcast_S8_S1x8_1
      (Host.topK S8 0 (IntOp.cmpi .sgt) h sliceFits_S1024_S8).2))

theorem slots_apply (h : IVec S1024 32) (κ : Fin 8 → Fin 1024)
    (hκ : ∀ r, κ r = sortedFrom (gtB fun c : Fin 1024 => (h (ValueIdx.ix1 c)).toInt) (r.castLE (by decide : 8 ≤ 1024))) (n : Fin 4096) (r : Fin 8) :
    slots h (ix2 n r) = BitVec.ofNat 32 (κ r).val := by
  have hw : (broadcastInDim S4096x8 ![0, 1] bcast_S1x8_S4096x8_0_1 (broadcastInDim S1x8 ![1] bcast_S8_S1x8_1
        (Host.topK S8 0 (IntOp.cmpi .sgt) h sliceFits_S1024_S8).2) : IVec S4096x8 32) (ix2 n r) = BitVec.ofNat 32 (κ r).val := by
    refine (broadcastInDim_apply _ _ _ (ix2 n r) (ix2 (0 : Fin 1) r) fun a => ?_).trans ?_
    · match a with | ⟨0, _⟩ => rfl | ⟨1, _⟩ => rfl
    refine (broadcastInDim_apply _ _ _ (ix2 (0 : Fin 1) r) (ValueIdx.ix1 r) fun a => ?_).trans ?_
    · match a with | ⟨0, _⟩ => rfl
    rw [hκ]
    exact TopK.topK_words (by decide : 8 ≤ 1024) h _ r
  have hz : ∀ j, (broadcastInDim S4096x8 ![] bcast_S_S4096x8 (constantI S_ 32 0#32) : IVec S4096x8 32) j = 0#32 := fun j =>
    broadcastInDim_scalar_apply _ _ _
  have hm : ∀ j, (broadcastInDim S4096x8 ![] bcast_S_S4096x8 (constantI S_ 32 1024#32) : IVec S4096x8 32) j = 1024#32 := fun j =>
    broadcastInDim_scalar_apply _ _ _
  unfold slots
  rw [ValueIdx.select_apply, cmpi_apply, addi_apply, hz, hm, hw]
  exact keep_position (κ r)

/-- The prompts taken. -/
def taken (x : FVec Ideal S1024x8x768 .f32) (w : IVec S4096x8 32) : FVec Ideal S4096x8x8x768 .f32 :=
  Host.gather gather_S1024x8x768_S4096x8x1_S4096x8x8x768_23_0_n_n_0_2_18768 x (broadcastInDim S4096x8x1 ![0, 1] bcast_S4096x8_S4096x8x1_0_1 w)

theorem taken_apply (x : FVec Ideal S1024x8x768 .f32) (w : IVec S4096x8 32) (κ : Fin 8 → Fin 1024)
    (hw : ∀ n r, w (ix2 n r) = BitVec.ofNat 32 (κ r).val) (n : Fin 4096) (r l : Fin 8) (d : Fin 768) :
    taken x w (ix4 n r l d) = x (ix3 (κ r) l d) := by
  unfold taken
  refine Gathers.gather_slabs (N := 1024) (L := 8) (D := 768) (R := 4096) (C := 8) gather_S1024x8x768_S4096x8x1_S4096x8x8x768_23_0_n_n_0_2_18768.wf _ rfl
    x _ n r l d (κ r) ?_
  refine (congrArg BitVec.toInt ((broadcastInDim_apply _ _ _ (ix3 n r (0 : Fin 1)) (ix2 n r) fun a => ?_).trans (hw n r))).trans
    (toInt_ofNat_small (κ r).val (by omega))
  match a with | ⟨0, _⟩ => rfl | ⟨1, _⟩ => rfl

/-- The similarities taken: at a position out of range, not a number. -/
def held (v : FVec Ideal S4096x1024 .f32) (w : IVec S4096x8 32) : FVec Ideal S4096x8 .f32 :=
  select (Host.reduce IntOp.andi (andi (cmpi .sge (shapeCast S4096x8x1 w shapeCasts_S4096x8_S4096x8x1) (broadcastInDim S4096x8x1 ![] bcast_S_S4096x8x1 (constantI S_ 32 0#32)))
      (cmpi .sle (shapeCast S4096x8x1 w shapeCasts_S4096x8_S4096x8x1) (broadcastInDim S4096x8x1 ![0, 1, 2] bcast_S1x1x1_S4096x8x1_0_1_2
        (broadcastInDim S1x1x1 ![2] bcast_S1_S1x1x1_2 (constantI S1 32 1023#32))))) (constantI S_ 1 1#1) reducesTo_S4096x8x1_S4096x8_d2 h_S_)
    (Host.gather gather_S4096x1024_S4096x8x1_S4096x8_n_1_0_0_1_2_11 v (shapeCast S4096x8x1 w shapeCasts_S4096x8_S4096x8x1))
    (broadcastInDim S4096x8 ![] bcast_S_S4096x8 (constant (F := Ideal) S_ .f32 0x7FC00000#32))

theorem in_range (k : Fin 1024) :
    IntOp.andi (IntOp.cmpi .sge (BitVec.ofNat 32 k.val) 0#32) (IntOp.cmpi .sle (BitVec.ofNat 32 k.val) 1023#32) = 1#1 := by
  have h : (0#32).sle (BitVec.ofNat 32 k.val) = true := by
    rw [BitVec.sle, toInt_ofNat_small k.val (by omega)]
    exact decide_eq_true (Int.natCast_nonneg _)
  have h' : (BitVec.ofNat 32 k.val).sle 1023#32 = true := by
    rw [BitVec.sle, toInt_ofNat_small _ (by omega)]
    have := k.isLt
    exact decide_eq_true (show (k.val : Int) ≤ 1023 by omega)
  unfold IntOp.andi IntOp.cmpi
  simp [h, h']

/-- Ones and ones are ones. -/
theorem fold_ones {ι : Type} (s : Finset ι) (f : ι → BitVec 1) (h : ∀ i, f i = 1#1) : s.fold IntOp.andi 1#1 f = 1#1 := by
  classical
  induction s using Finset.induction_on with
  | empty => rfl
  | insert a s ha ih => rw [Finset.fold_insert ha, h, ih]; rfl

theorem held_apply (v : FVec Ideal S4096x1024 .f32) (w : IVec S4096x8 32) (κ : Fin 8 → Fin 1024)
    (hw : ∀ n r, w (ix2 n r) = BitVec.ofNat 32 (κ r).val) (n : Fin 4096) (r : Fin 8) :
    held v w (ix2 n r) = v (ix2 n (κ r)) := by
  have hc : ∀ (n : Fin 4096) (r : Fin 8) (o : Fin 1), (shapeCast S4096x8x1 w shapeCasts_S4096x8_S4096x8x1 : IVec S4096x8x1 32) (ix3 n r o)
      = BitVec.ofNat 32 (κ r).val := fun n r o => by
    refine (shapeCast_apply _ _ _ (ix2 n r) ?_).trans (hw n r)
    rw [Shape.rowMajor_val_two, Shape.rowMajor_val_three]
    show n.val * 8 + r.val = (n.val * 8 + r.val) * 1 + o.val
    omega
  have hz : ∀ j, (broadcastInDim S4096x8x1 ![] bcast_S_S4096x8x1 (constantI S_ 32 0#32) : IVec S4096x8x1 32) j = 0#32 := fun j =>
    broadcastInDim_scalar_apply _ _ _
  have hm : ∀ (n : Fin 4096) (r : Fin 8) (o : Fin 1), (broadcastInDim S4096x8x1 ![0, 1, 2] bcast_S1x1x1_S4096x8x1_0_1_2
        (broadcastInDim S1x1x1 ![2] bcast_S1_S1x1x1_2 (constantI S1 32 1023#32)) : IVec S4096x8x1 32) (ix3 n r o) = 1023#32 := fun n r o => by
    refine (broadcastInDim_apply _ _ _ (ix3 n r o) (ix3 (0 : Fin 1) (0 : Fin 1) (0 : Fin 1)) fun a => ?_).trans ?_
    · match a with | ⟨0, _⟩ => rfl | ⟨1, _⟩ => rfl | ⟨2, _⟩ => rfl
    refine (broadcastInDim_apply _ _ _ (ix3 (0 : Fin 1) (0 : Fin 1) (0 : Fin 1)) (ValueIdx.ix1 (0 : Fin 1)) fun a => ?_).trans rfl
    match a with | ⟨0, _⟩ => rfl
  unfold held
  rw [ValueIdx.select_apply, Host.reduce_eq_fold_single IntOp.andi _ _ _ (by decide) _ _]
  rw [show (constantI S_ 1 1#1 : IVec S_ 1) (Shape.Idx.first h_S_) = 1#1 from rfl, fold_ones _ _ fun o => ?_]
  · refine (if_pos rfl).trans ?_
    refine Gathers.gather_entries (R := 4096) (N := 1024) (C := 8) gather_S4096x1024_S4096x8x1_S4096x8_n_1_0_0_1_2_11.wf _ rfl v _ n r (κ r) ?_
    exact (congrArg BitVec.toInt (hc n r 0)).trans (toInt_ofNat_small (κ r).val (by omega))
  · obtain ⟨n', r', o', hj⟩ : ∃ (n' : Fin 4096) (r' : Fin 8) (o' : Fin 1),
        (show S4096x8x1.Reduces [2] S4096x8 by decide).lift (ix2 n r) o = ix3 n' r' o' := ⟨_, _, _, ValueIdx.eq_ix3 _⟩
    rw [Function.comp_apply, hj, andi_apply, cmpi_apply, cmpi_apply, hc, hz, hm]
    exact in_range (κ r')

end Cert.ReferenceIdeal.Value
end
-- ==== Proof.ReferenceIdeal.Results.lean ====
/- The reference's two results, entry by entry. -/
module

public import proofs.«01_k».proof.Proof.ReferenceIdeal.Steps
public import proofs.«01_k».proof.Proof.Choice
@[expose] public section

set_option maxRecDepth 16384

noncomputable section

namespace Cert.ReferenceIdeal.Value

open Cert.ReferenceIdeal Cert.ReferenceIdeal.Gen Idealize.ShloMosaic Idealize.ShloMosaic.TcCoe
open Idealize.ShloMosaic.ValueIdx (ix2 ix3 ix4)
open Cert.Sim (sim vec)
open Cert.MatchRounds (topPos)
open Cert.Choice (hist topKeys)
open scoped BigOperators

/-- The counts of the eight best positions of every query. -/
theorem counts_ranks (v : FVec Ideal S4096x1024 .f32) (S : Fin 4096 → Fin 1024 → EReal) (hv : ∀ n k, v (ix2 n k) = S n k) (k : Fin 1024) :
    counts (ranks v) (ValueIdx.ix1 k) = hist S k := by
  have hs : ∀ n : Fin 4096, (fun k : Fin 1024 => v (ix2 n k)) = S n := fun n => funext (hv n)
  refine (counts_apply (ranks v) (fun i : Fin 32768 => topPos (S ((finProdFinEquiv (m := 4096) (n := 8)).symm i).1)
    ((finProdFinEquiv (m := 4096) (n := 8)).symm i).2) (fun i => ?_) k).trans ?_
  · obtain ⟨⟨n, r⟩, rfl⟩ := (finProdFinEquiv (m := 4096) (n := 8)).surjective i
    rw [Equiv.symm_apply_apply]
    exact (ranks_apply v n r).trans (by rw [hs])
  · unfold hist
    refine ((Equiv.sum_comp (finProdFinEquiv (m := 4096) (n := 8)) (fun i : Fin (4096 * 8) =>
      if topPos (S ((finProdFinEquiv (m := 4096) (n := 8)).symm i).1) ((finProdFinEquiv (m := 4096) (n := 8)).symm i).2 = k then 1#32 else 0#32)).symm).trans ?_
    rw [Fintype.sum_prod_type]
    refine Finset.sum_congr rfl fun n _ => Finset.sum_congr rfl fun r _ => ?_
    rw [Equiv.symm_apply_apply]

/-- The keys named most often. -/
theorem slots_counts (v : FVec Ideal S4096x1024 .f32) (S : Fin 4096 → Fin 1024 → EReal) (hv : ∀ n k, v (ix2 n k) = S n k) (n : Fin 4096) (r : Fin 8) :
    slots (counts (ranks v)) (ix2 n r) = BitVec.ofNat 32 (topKeys S r).val := by
  refine slots_apply _ (topKeys S) (fun r => ?_) n r
  have e : (fun c : Fin 1024 => (counts (ranks v) (ValueIdx.ix1 c)).toInt) = fun c => (hist S c).toInt :=
    funext fun c => congrArg BitVec.toInt (counts_ranks v S hv c)
  rw [e]
  rfl

variable (m : (ℓ : Loc nD τ sig) → Buf (Elt Ideal) ℓ) (c : Dev nD)

/-- The queries, the keys and the prompts. -/
abbrev argQ : FVec Ideal S4096x768 .f32 := m ((c.tc : Thread nD τ).loc main_arg0)
abbrev argK : FVec Ideal S1024x768 .f32 := m ((c.tc : Thread nD τ).loc main_arg1)
abbrev argP : FVec Ideal S1024x8x768 .f32 := m ((c.tc : Thread nD τ).loc main_arg2)

/-- The prompts, by the steps. -/
theorem v32_steps : (res_main_v32 m c : FVec Ideal S4096x8x8x768 .f32) = taken (argP m c) (slots (counts (ranks (scores (argQ m c) (argK m c))))) := by
  unfold res_main_v32 taken slots counts ranks scores
  rfl

/-- The similarities, by the steps. -/
theorem v33_steps : (res_main_v33 m c : FVec Ideal S4096x8 .f32)
    = held (scores (argQ m c) (argK m c)) (slots (counts (ranks (scores (argQ m c) (argK m c))))) := by
  unfold res_main_v33 held slots counts ranks scores
  rfl

/-- The prompts: at every query those of the keys named most often. -/
theorem v32_apply (S : Fin 4096 → Fin 1024 → EReal) (hS : ∀ n k, sim (vec (argQ m c) n) (vec (argK m c) k) = S n k) (n : Fin 4096) (r l : Fin 8)
    (d : Fin 768) : (res_main_v32 m c : FVec Ideal S4096x8x8x768 .f32) (ix4 n r l d) = argP m c (ix3 (topKeys S r) l d) := by
  rw [v32_steps]
  exact taken_apply _ _ (topKeys S) (slots_counts _ S fun n k => (scores_apply _ _ n k).trans (hS n k)) n r l d

/-- The similarities: at every query those to the keys named most often. -/
theorem v33_apply (S : Fin 4096 → Fin 1024 → EReal) (hS : ∀ n k, sim (vec (argQ m c) n) (vec (argK m c) k) = S n k) (n : Fin 4096) (r : Fin 8) :
    (res_main_v33 m c : FVec Ideal S4096x8 .f32) (ix2 n r) = S n (topKeys S r) := by
  rw [v33_steps]
  refine (held_apply _ _ (topKeys S) (slots_counts _ S fun n k => (scores_apply _ _ n k).trans (hS n k)) n r).trans ?_
  exact (scores_apply _ _ n _).trans (hS n _)

end Cert.ReferenceIdeal.Value
end
-- ==== Proof.Agree.lean ====
/- The kernel's results are the reference's, from the same arguments. -/
module

public import proofs.«01_k».proof.Proof.KernelIdeal.Results
public import proofs.«01_k».proof.Proof.ReferenceIdeal.Results
@[expose] public section

set_option maxRecDepth 16384

noncomputable section

namespace Cert.Agree

open Idealize.ShloMosaic Idealize.ShloMosaic.TcCoe
open Idealize.ShloMosaic.ValueIdx (ix2 ix3 ix4 eq_ix2 eq_ix4)
open Cert.Sim (sim vec)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From the same queries and keys the similarities are the same; there is one device. -/
theorem sims_same (hq : Cert.ReferenceIdeal.Value.argQ m' c = Cert.KernelIdeal.Q m c) (hk : Cert.ReferenceIdeal.Value.argK m' c = Cert.KernelIdeal.K m c)
    (n : Fin 4096) (k : Fin 1024) :
    sim (vec (Cert.ReferenceIdeal.Value.argQ m' c) n) (vec (Cert.ReferenceIdeal.Value.argK m' c) k) = Cert.KernelIdeal.sims m 0 n k := by
  rw [hq, hk]
  obtain rfl : c = 0 := Subsingleton.elim (α := Fin 1) c 0
  rfl

/-- The prompts agree. -/
theorem prompts_same (hq : Cert.ReferenceIdeal.Value.argQ m' c = Cert.KernelIdeal.Q m c) (hk : Cert.ReferenceIdeal.Value.argK m' c = Cert.KernelIdeal.K m c)
    (hp : Cert.ReferenceIdeal.Value.argP m' c = Cert.KernelIdeal.P m c) :
    (Cert.ReferenceIdeal.Value.res_main_v32 m' c : FVec Ideal Cert.ReferenceIdeal.S4096x8x8x768 .f32)
      = (show FVec Ideal Cert.KernelIdeal.S4096x8x8x768 .f32 from
          Cert.KernelIdeal.Gen.V9 m (Cert.KernelIdeal.outs m) c Cert.KernelIdeal.main_v10_1) := by
  funext j
  obtain ⟨n, r, l, d, rfl⟩ : ∃ (n : Fin 4096) (r l : Fin 8) (d : Fin 768), j = ix4 n r l d := ⟨_, _, _, _, eq_ix4 j⟩
  refine (Cert.ReferenceIdeal.Value.v32_apply m' c (Cert.KernelIdeal.sims m 0) (sims_same m m' c hq hk) n r l d).trans ?_
  rw [hp]
  exact (Cert.KernelIdeal.prompts_eq m c n r l d).symm

/-- The similarities agree. -/
theorem similarities_same (hq : Cert.ReferenceIdeal.Value.argQ m' c = Cert.KernelIdeal.Q m c) (hk : Cert.ReferenceIdeal.Value.argK m' c = Cert.KernelIdeal.K m c) :
    (Cert.ReferenceIdeal.Value.res_main_v33 m' c : FVec Ideal Cert.ReferenceIdeal.S4096x8 .f32)
      = (show FVec Ideal Cert.KernelIdeal.S4096x8 .f32 from
          Cert.KernelIdeal.Gen.V9 m (Cert.KernelIdeal.outs m) c Cert.KernelIdeal.main_v11) := by
  funext j
  obtain ⟨n, r, rfl⟩ : ∃ (n : Fin 4096) (r : Fin 8), j = ix2 n r := ⟨_, _, eq_ix2 j⟩
  refine (Cert.ReferenceIdeal.Value.v33_apply m' c (Cert.KernelIdeal.sims m 0) (sims_same m m' c hq hk) n r).trans ?_
  refine Eq.trans ?_ (Cert.KernelIdeal.sims_eq m c n r).symm
  obtain rfl : c = 0 := Subsingleton.elim (α := Fin 1) c 0
  rfl

end Cert.Agree
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Agree

@[expose] public section

noncomputable section

namespace Cert.Proof

open Idealize.ShloMosaic Idealize.SL.Sem

/-- The kernel's program ends, with its arguments as launched and every counter at zero. -/
theorem frame_k : Cert.quiescent_Kernel := fun m ρ _ =>
  (θ_run Cert.Kernel.defs _ _).mono (fun _ h => ⟨fun c => ⟨(h.1 c).1, (h.1 c).2.1, (h.1 c).2.2.1⟩, h.2⟩) (Cert.Kernel.run (F := Bits) m ρ)

/-- So does its idealization. -/
theorem frame_ki : Cert.quiescent_KernelIdeal := fun m ρ _ =>
  (θ_run Cert.KernelIdeal.defs _ _).mono (fun _ h => ⟨fun c => ⟨(h.1 c).1, (h.1 c).2.1, (h.1 c).2.2.1⟩, h.2⟩) (Cert.KernelIdeal.run (F := Ideal) m ρ)

/-- So does the reference, which has no counters. -/
theorem frame_ri : Cert.quiescent_ReferenceIdeal := fun m ρ _ =>
  (θ_run Cert.ReferenceIdeal.defs _ _).mono (fun r h => ⟨fun c => ⟨(h c).2.2.1, (h c).2.2.2.1, (h c).2.2.2.2⟩, sem_eq_zero_of_no_sems (by decide) r.2⟩)
    (Cert.ReferenceIdeal.Value.run (F := Ideal) m ρ)

/-- The idealized kernel and the reference end with the same results. -/
theorem results : Cert.algebraic_KernelIdeal_ReferenceIdeal := fun m ρ m' ρ' _ h =>
  ⟨fun c => Cert.KernelIdeal.Gen.V9 m (Cert.KernelIdeal.outs m) c (Proc.devRef .tc Cert.KernelIdeal.main_v11),
   fun c => Cert.KernelIdeal.Gen.V9 m (Cert.KernelIdeal.outs m) c (Proc.devRef .tc Cert.KernelIdeal.main_v10_1),
   (θ_run Cert.KernelIdeal.defs _ _).mono
    (fun _ e c => ⟨(e.1 c).2.2.2.1, (e.1 c).2.2.2.2, (e.1 c).1, (e.1 c).2.1, (e.1 c).2.2.1⟩) (Cert.KernelIdeal.run (F := Ideal) m ρ),
   (θ_run Cert.ReferenceIdeal.defs _ _).mono
    (fun _ e c => ⟨(e c).1.trans (Cert.Agree.similarities_same m m' c (h c).1 (h c).2.1),
      (e c).2.1.trans (Cert.Agree.prompts_same m m' c (h c).1 (h c).2.1 (h c).2.2), (e c).2.2.1, (e c).2.2.2.1, (e c).2.2.2.2⟩)
    (Cert.ReferenceIdeal.Value.run (F := Ideal) m' ρ')⟩

theorem claim : Cert.Claim := ⟨Cert.Kernel.Gen.facts, Cert.KernelIdeal.Gen.facts, Cert.ReferenceIdeal.Gen.facts,
  frame_k, frame_ki, frame_ri, trivial, results⟩

end Cert.Proof

end
